-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_graph [hPre_real_graph : Cert.Pre_real_graph.Facts] (m : (ℓ : Loc Cert.KernelIdeal.nD Cert.KernelIdeal.τ Cert.KernelIdeal.sig) → Buf (Elt Ideal) ℓ) : Prop :=
  ∀ c : Dev Cert.KernelIdeal.nD,
    (Cert.Pre_real_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_real_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_real_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_real_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_real_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_real_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_real_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_real_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_real_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_real_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_real_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_real_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_graph [hPre_real_graph : Cert.Pre_real_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_real_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_real_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_real_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_real_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_real_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_real_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_real_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_real_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_real_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_real_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_real_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_real_graph [hKernelIdeal : Cert.KernelIdeal.Facts] [hPre_real_graph : Cert.Pre_real_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_real_graph [hReferenceIdeal : Cert.ReferenceIdeal.Facts] [hPre_real_graph : Cert.Pre_real_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv255" .f32 0x3B808081#32 ((255⁻¹ : ℝ) : EReal)

def algebraic_KernelIdeal_ReferenceIdeal_pre_real_graph [hKernelIdeal : Cert.KernelIdeal.Facts] [hReferenceIdeal : Cert.ReferenceIdeal.Facts] [hPre_real_graph : Cert.Pre_real_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_real_graph : Cert.Pre_real_graph.Facts),
    quiescent_Kernel (hKernel := hKernel)
    ∧ quiescent_KernelIdeal (hKernelIdeal := hKernelIdeal)
    ∧ quiescent_KernelIdeal_pre_real_graph (hKernelIdeal := hKernelIdeal) (hPre_real_graph := hPre_real_graph)
    ∧ quiescent_ReferenceIdeal (hReferenceIdeal := hReferenceIdeal)
    ∧ quiescent_ReferenceIdeal_pre_real_graph (hReferenceIdeal := hReferenceIdeal) (hPre_real_graph := hPre_real_graph)
    ∧ preserves_Kernel_KernelIdeal
    ∧ algebraic_KernelIdeal_ReferenceIdeal_pre_real_graph (hKernelIdeal := hKernelIdeal) (hReferenceIdeal := hReferenceIdeal) (hPre_real_graph := hPre_real_graph)
-- ==== Pre_real_graph.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S384x64 : Shape := ⟨2, ![384, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  bcast_S_S128x128 : S_.BroadcastsInDim S128x128 (![] : Fin 0 → Fin S128x128.rank)
  bcast_S_S128 : S_.BroadcastsInDim S128 (![] : Fin 0 → Fin S128.rank)
  bcast_S_S384x64 : S_.BroadcastsInDim S384x64 (![] : Fin 0 → Fin S384x64.rank)
  bcast_S_S64 : S_.BroadcastsInDim S64 (![] : Fin 0 → Fin S64.rank)
  bcast_S_S10000x10000 : S_.BroadcastsInDim S10000x10000 (![] : Fin 0 → Fin S10000x10000.rank)

variable [Facts]

def fn_part2 {F : FTy → Type} [FloatOps F] (main_arg1 : FVec F S10000x10000 .f32) (main_v2 : IVec S10000x128 1) (main_v5 : IVec S128x128 1) (main_v8 : IVec S128 1) (main_v11 : IVec S128x128 1) (main_v14 : IVec S128 1) (main_v17 : IVec S128x128 1) (main_v20 : IVec S128 1) (main_v23 : IVec S128x128 1) (main_v26 : IVec S128 1) (main_v29 : IVec S384x64 1) (main_v32 : IVec S64 1) (main_v34 : IVec S10000x10000 1) (main_cst_11 : FVec F S_ .f32) : IVec S10000x128 1 × IVec S128x128 1 × IVec S128 1 × IVec S128x128 1 × IVec S128 1 × IVec S128x128 1 × IVec S128 1 × IVec S128x128 1 × IVec S128 1 × IVec S384x64 1 × IVec S64 1 × IVec S10000x10000 1 :=
  let main_v35 : FVec F S10000x10000 .f32 := broadcastInDim S10000x10000 ![] bcast_S_S10000x10000 main_cst_11
  let main_v36 : IVec S10000x10000 1 := cmpf .ole main_arg1 main_v35
  let main_v37 : IVec S10000x10000 1 := andi main_v34 main_v36
  (main_v2, main_v5, main_v8, main_v11, main_v14, main_v17, main_v20, main_v23, main_v26, main_v29, main_v32, main_v37)

def fn_part1 {F : FTy → Type} [FloatOps F] (main_arg1 : FVec F S10000x10000 .f32) (main_arg7 : FVec F S128 .f32) (main_arg8 : FVec F S128x128 .f32) (main_arg9 : FVec F S128 .f32) (main_arg10 : FVec F S384x64 .f32) (main_arg11 : FVec F S64 .f32) (main_v2 : IVec S10000x128 1) (main_v5 : IVec S128x128 1) (main_v8 : IVec S128 1) (main_v11 : IVec S128x128 1) (main_v14 : IVec S128 1) (main_v17 : IVec S128x128 1) : IVec S10000x128 1 × IVec S128x128 1 × IVec S128 1 × IVec S128x128 1 × IVec S128 1 × IVec S128x128 1 × IVec S128 1 × IVec S128x128 1 × IVec S128 1 × IVec S384x64 1 × IVec S64 1 × IVec S10000x10000 1 :=
  let main_v18 : FVec F S128 .f32 := Host.absf main_arg7
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_v21 : FVec F S128x128 .f32 := Host.absf main_arg8
  let main_cst_6 : FVec F S_ .f32 := constant S_ .f32 0x7F800000#32
  let main_v22 : FVec F S128x128 .f32 := broadcastInDim S128x128 ![] bcast_S_S128x128 main_cst_6
  let main_v23 : IVec S128x128 1 := cmpf .olt main_v21 main_v22
  let main_v24 : FVec F S128 .f32 := Host.absf main_arg9
  let main_cst_7 : FVec F S_ .f32 := constant S_ .f32 0x7F800000#32
  let main_v25 : FVec F S128 .f32 := broadcastInDim S128 ![] bcast_S_S128 main_cst_7
  let main_v26 : IVec S128 1 := cmpf .olt main_v24 main_v25
  let main_v27 : FVec F S384x64 .f32 := Host.absf main_arg10
  let main_cst_8 : FVec F S_ .f32 := constant S_ .f32 0x7F800000#32
  let main_v28 : FVec F S384x64 .f32 := broadcastInDim S384x64 ![] bcast_S_S384x64 main_cst_8
  let main_v29 : IVec S384x64 1 := cmpf .olt main_v27 main_v28
  let main_v30 : FVec F S64 .f32 := Host.absf main_arg11
  let main_cst_9 : FVec F S_ .f32 := constant S_ .f32 0x7F800000#32
  let main_v31 : FVec F S64 .f32 := broadcastInDim S64 ![] bcast_S_S64 main_cst_9
  let main_v32 : IVec S64 1 := cmpf .olt main_v30 main_v31
  let main_cst_10 : FVec F S_ .f32 := constant S_ .f32 0x00000000#32
  let main_v33 : FVec F S10000x10000 .f32 := broadcastInDim S10000x10000 ![] bcast_S_S10000x10000 main_cst_10
  let main_v34 : IVec S10000x10000 1 := cmpf .oge main_arg1 main_v33
  let main_cst_11 : FVec F S_ .f32 := constant S_ .f32 0x3F800000#32
  fn_part2 (F := F) main_arg1 main_v2 main_v5 main_v8 main_v11 main_v14 main_v17 main_v20 main_v23 main_v26 main_v29 main_v32 main_v34 main_cst_11

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S384x64 .f32) (main_arg11 : FVec F S64 .f32) : IVec S10000x128 1 × IVec S128x128 1 × IVec S128 1 × IVec S128x128 1 × IVec S128 1 × IVec S128x128 1 × IVec S128 1 × IVec S128x128 1 × IVec S128 1 × IVec S384x64 1 × IVec S64 1 × IVec S10000x10000 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S128x128 .f32 := Host.absf main_arg2
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S128 .f32 := Host.absf main_arg3
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_v12 : FVec F S128 .f32 := Host.absf main_arg5
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128x128 .f32 := Host.absf main_arg6
  let main_cst_4 : FVec F S_ .f32 := constant S_ .f32 0x7F800000#32
  let main_v16 : FVec F S128x128 .f32 := broadcastInDim S128x128 ![] bcast_S_S128x128 main_cst_4
  let main_v17 : IVec S128x128 1 := cmpf .olt main_v15 main_v16
  fn_part1 (F := F) main_arg1 main_arg7 main_arg8 main_arg9 main_arg10 main_arg11 main_v2 main_v5 main_v8 main_v11 main_v14 main_v17
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S384x64 : Shape := ⟨2, ![384, 64]⟩
abbrev S64 : Shape := ⟨1, ![64]⟩
abbrev S1x128 : Shape := ⟨2, ![1, 128]⟩
abbrev S400x10000 : Shape := ⟨2, ![400, 10000]⟩
abbrev S400x128 : Shape := ⟨2, ![400, 128]⟩
abbrev S1000x10000 : Shape := ⟨2, ![1000, 10000]⟩
abbrev S1000x128 : Shape := ⟨2, ![1000, 128]⟩
abbrev S1000x2048 : Shape := ⟨2, ![1000, 2048]⟩
abbrev S2048x128 : Shape := ⟨2, ![2048, 128]⟩
abbrev S1000x1808 : Shape := ⟨2, ![1000, 1808]⟩
abbrev S1808x128 : Shape := ⟨2, ![1808, 128]⟩
abbrev S128x64 : Shape := ⟨2, ![128, 64]⟩
abbrev S1x64 : Shape := ⟨2, ![1, 64]⟩
abbrev S10000x64 : Shape := ⟨2, ![10000, 64]⟩
abbrev S1000x64 : Shape := ⟨2, ![1000, 64]⟩
abbrev S1000 : Shape := ⟨1, ![1000]⟩
abbrev S1000x1 : Shape := ⟨2, ![1000, 1]⟩

abbrev nBuf : Space → Nat
  | .hbm => 35
  | .vmem => 48
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S384x64, .f32⟩
  | .hbm, ⟨11, _⟩ => ⟨S64, .f32⟩
  | .hbm, ⟨12, _⟩ => ⟨S10000x128, .bf16⟩
  | .hbm, ⟨13, _⟩ => ⟨S128x128, .bf16⟩
  | .hbm, ⟨14, _⟩ => ⟨S1x128, .f32⟩
  | .hbm, ⟨15, _⟩ => ⟨S128x128, .bf16⟩
  | .hbm, ⟨16, _⟩ => ⟨S1x128, .f32⟩
  | .hbm, ⟨17, _⟩ => ⟨S10000x10000, .i8⟩
  | .hbm, ⟨18, _⟩ => ⟨S10000x128, .bf16⟩
  | .hbm, ⟨19, _⟩ => ⟨S128x128, .bf16⟩
  | .hbm, ⟨20, _⟩ => ⟨S1x128, .f32⟩
  | .hbm, ⟨21, _⟩ => ⟨S10000x128, .bf16⟩
  | .hbm, ⟨22, _⟩ => ⟨S10000x128, .bf16⟩
  | .hbm, ⟨23, _⟩ => ⟨S128x128, .bf16⟩
  | .hbm, ⟨24, _⟩ => ⟨S1x128, .f32⟩
  | .hbm, ⟨25, _⟩ => ⟨S10000x128, .bf16⟩
  | .hbm, ⟨26, _⟩ => ⟨S10000x128, .bf16⟩
  | .hbm, ⟨27, _⟩ => ⟨S128x64, .f32⟩
  | .hbm, ⟨28, _⟩ => ⟨S128x64, .bf16⟩
  | .hbm, ⟨29, _⟩ => ⟨S128x64, .f32⟩
  | .hbm, ⟨30, _⟩ => ⟨S128x64, .bf16⟩
  | .hbm, ⟨31, _⟩ => ⟨S128x64, .f32⟩
  | .hbm, ⟨32, _⟩ => ⟨S128x64, .bf16⟩
  | .hbm, ⟨33, _⟩ => ⟨S1x64, .f32⟩
  | .hbm, ⟨34, _⟩ => ⟨S10000x64, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x128, .bf16⟩
  | .local _ .vmem, ⟨4, _⟩ => ⟨S400x128, .bf16⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S400x10000, .i8⟩
  | .local _ .vmem, ⟨10, _⟩ => ⟨S400x10000, .i8⟩
  | .local _ .vmem, ⟨11, _⟩ => ⟨S400x128, .bf16⟩
  | .local _ .vmem, ⟨12, _⟩ => ⟨S400x128, .bf16⟩
  | .local _ .vmem, ⟨13, _⟩ => ⟨S1000x10000, .i8⟩
  | .local _ .vmem, ⟨14, _⟩ => ⟨S1000x10000, .i8⟩
  | .local _ .vmem, ⟨15, _⟩ => ⟨S10000x128, .bf16⟩
  | .local _ .vmem, ⟨16, _⟩ => ⟨S1000x128, .bf16⟩
  | .local _ .vmem, ⟨17, _⟩ => ⟨S1000x128, .bf16⟩
  | .local _ .vmem, ⟨18, _⟩ => ⟨S128x128, .bf16⟩
  | .local _ .vmem, ⟨19, _⟩ => ⟨S1x128, .f32⟩
  | .local _ .vmem, ⟨20, _⟩ => ⟨S1000x128, .bf16⟩
  | .local _ .vmem, ⟨21, _⟩ => ⟨S1000x128, .bf16⟩
  | .local _ .vmem, ⟨22, _⟩ => ⟨S1000x128, .bf16⟩
  | .local _ .vmem, ⟨23, _⟩ => ⟨S1000x128, .bf16⟩
  | .local _ .vmem, ⟨24, _⟩ => ⟨S1000x10000, .i8⟩
  | .local _ .vmem, ⟨25, _⟩ => ⟨S1000x10000, .i8⟩
  | .local _ .vmem, ⟨26, _⟩ => ⟨S10000x128, .bf16⟩
  | .local _ .vmem, ⟨27, _⟩ => ⟨S1000x128, .bf16⟩
  | .local _ .vmem, ⟨28, _⟩ => ⟨S1000x128, .bf16⟩
  | .local _ .vmem, ⟨29, _⟩ => ⟨S128x128, .bf16⟩
  | .local _ .vmem, ⟨30, _⟩ => ⟨S1x128, .f32⟩
  | .local _ .vmem, ⟨31, _⟩ => ⟨S1000x128, .bf16⟩
  | .local _ .vmem, ⟨32, _⟩ => ⟨S1000x128, .bf16⟩
  | .local _ .vmem, ⟨33, _⟩ => ⟨S1000x128, .bf16⟩
  | .local _ .vmem, ⟨34, _⟩ => ⟨S1000x128, .bf16⟩
  | .local _ .vmem, ⟨35, _⟩ => ⟨S1000x10000, .i8⟩
  | .local _ .vmem, ⟨36, _⟩ => ⟨S1000x10000, .i8⟩
  | .local _ .vmem, ⟨37, _⟩ => ⟨S10000x128, .bf16⟩
  | .local _ .vmem, ⟨38, _⟩ => ⟨S1000x128, .bf16⟩
  | .local _ .vmem, ⟨39, _⟩ => ⟨S1000x128, .bf16⟩
  | .local _ .vmem, ⟨40, _⟩ => ⟨S1000x128, .bf16⟩
  | .local _ .vmem, ⟨41, _⟩ => ⟨S1000x128, .bf16⟩
  | .local _ .vmem, ⟨42, _⟩ => ⟨S128x64, .bf16⟩
  | .local _ .vmem, ⟨43, _⟩ => ⟨S128x64, .bf16⟩
  | .local _ .vmem, ⟨44, _⟩ => ⟨S128x64, .bf16⟩
  | .local _ .vmem, ⟨45, _⟩ => ⟨S1x64, .f32⟩
  | .local _ .vmem, ⟨46, _⟩ => ⟨S1000x64, .f32⟩
  | .local _ .vmem, ⟨47, _⟩ => ⟨S1000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg8_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem5_1 : DmaSem sig := 32
abbrev cc2_sem6_0 : DmaSem sig := 33
abbrev cc2_sem6_1 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem8_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x10000 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S400x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1000x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .i8 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x64 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x64 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== KernelIdeal.lean ====
variable {F : FTy → Type} [FloatOps F] [Named F]
def κ : String → Option EReal := fun
  | "inv255" => some ((255⁻¹ : ℝ) : EReal)
  | _ => none
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S384x64 : Shape := ⟨2, ![384, 64]⟩
abbrev S64 : Shape := ⟨1, ![64]⟩
abbrev S_ : Shape := ⟨0, ![]⟩
abbrev S1x128 : Shape := ⟨2, ![1, 128]⟩
abbrev S10000x384 : Shape := ⟨2, ![10000, 384]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 74
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S384x64, .f32⟩
  | .hbm, ⟨11, _⟩ => ⟨S64, .f32⟩
  | .hbm, ⟨12, _⟩ => ⟨S_, .f32⟩
  | .hbm, ⟨13, _⟩ => ⟨S10000x10000, .f32⟩
  | .hbm, ⟨14, _⟩ => ⟨S10000x10000, .f32⟩
  | .hbm, ⟨15, _⟩ => ⟨S_, .f32⟩
  | .hbm, ⟨16, _⟩ => ⟨S10000x10000, .f32⟩
  | .hbm, ⟨17, _⟩ => ⟨S10000x10000, .f32⟩
  | .hbm, ⟨18, _⟩ => ⟨S10000x10000, .f32⟩
  | .hbm, ⟨19, _⟩ => ⟨S_, .f32⟩
  | .hbm, ⟨20, _⟩ => ⟨S10000x10000, .f32⟩
  | .hbm, ⟨21, _⟩ => ⟨S10000x10000, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S_, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S1x128, .f32⟩
  | .hbm, ⟨38, _⟩ => ⟨S10000x128, .f32⟩
  | .hbm, ⟨39, _⟩ => ⟨S10000x128, .f32⟩
  | .hbm, ⟨40, _⟩ => ⟨S_, .f32⟩
  | .hbm, ⟨41, _⟩ => ⟨S10000x128, .f32⟩
  | .hbm, ⟨42, _⟩ => ⟨S10000x128, .f32⟩
  | .hbm, ⟨43, _⟩ => ⟨S10000x128, .f32⟩
  | .hbm, ⟨44, _⟩ => ⟨S10000x128, .f32⟩
  | .hbm, ⟨45, _⟩ => ⟨S10000x128, .f32⟩
  | .hbm, ⟨46, _⟩ => ⟨S1x128, .f32⟩
  | .hbm, ⟨47, _⟩ => ⟨S10000x128, .f32⟩
  | .hbm, ⟨48, _⟩ => ⟨S10000x128, .f32⟩
  | .hbm, ⟨49, _⟩ => ⟨S_, .f32⟩
  | .hbm, ⟨50, _⟩ => ⟨S10000x128, .f32⟩
  | .hbm, ⟨51, _⟩ => ⟨S10000x128, .f32⟩
  | .hbm, ⟨52, _⟩ => ⟨S10000x128, .f32⟩
  | .hbm, ⟨53, _⟩ => ⟨S10000x384, .f32⟩
  | .hbm, ⟨54, _⟩ => ⟨S10000x64, .f32⟩
  | .hbm, ⟨55, _⟩ => ⟨S10000x64, .f32⟩
  | .hbm, ⟨56, _⟩ => ⟨S1x64, .f32⟩
  | .hbm, ⟨57, _⟩ => ⟨S10000x64, .f32⟩
  | .hbm, ⟨58, _⟩ => ⟨S10000x64, .f32⟩
  | .hbm, ⟨59, _⟩ => ⟨S_, .f32⟩
  | .hbm, ⟨60, _⟩ => ⟨S10000, .f32⟩
  | .hbm, ⟨61, _⟩ => ⟨S_, .f32⟩
  | .hbm, ⟨62, _⟩ => ⟨S10000, .f32⟩
  | .hbm, ⟨63, _⟩ => ⟨S10000, .f32⟩
  | .hbm, ⟨64, _⟩ => ⟨S10000x1, .f32⟩
  | .hbm, ⟨65, _⟩ => ⟨S10000x64, .f32⟩
  | .hbm, ⟨66, _⟩ => ⟨S10000x64, .f32⟩
  | .hbm, ⟨67, _⟩ => ⟨S10000x64, .f32⟩
  | .hbm, ⟨68, _⟩ => ⟨S_, .f32⟩
  | .hbm, ⟨69, _⟩ => ⟨S10000, .f32⟩
  | .hbm, ⟨70, _⟩ => ⟨S10000x1, .f32⟩
  | .hbm, ⟨71, _⟩ => ⟨S10000x1, .f32⟩
  | .hbm, ⟨72, _⟩ => ⟨S10000x64, .f32⟩
  | .hbm, ⟨73, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call1_cst : Ref sig .tc := ⟨.hbm, 40, rfl⟩
abbrev main_call1_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call2_cst : Ref sig .tc := ⟨.hbm, 49, rfl⟩
abbrev main_call2_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call3_cst : Ref sig .tc := ⟨.hbm, 59, rfl⟩
abbrev main_call3_v0 : Ref sig .tc := ⟨.hbm, 60, rfl⟩
abbrev main_call3_cst_0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_v6 : Ref sig .tc := ⟨.hbm, 67, rfl⟩
abbrev main_call3_cst_1 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_v38 : Ref sig .tc := ⟨.hbm, 73, rfl⟩

abbrev nD : Nat := 1
abbrev τ : Topo := Topo.v7x

variable {F : FTy → Type} [FloatOps F]
-- ==== Proof.Launch.lean ====
/- The kernel's run, read at every buffer it leaves. -/
module

public import proofs.«01_k».proof.Proof.Gen.KernelIdeal.Frame

@[expose] public section

set_option maxRecDepth 16384

noncomputable section

namespace Cert.Gcn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the kernel ends, and every buffer of a device then holds what the passes and the steps between them,
    taken in order from the launch, leave in it. -/
theorem kernel_run : θ_run defs (onTc (τ := τ) (main (F := Ideal))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.Gcn

end
-- ==== Proof.RealMath.lean ====
/- Real arithmetic of the graph network, free of any program: products of matrices given entry by entry, the layers the
   kernel computes and the layers the problem states, and their equality. -/
module

public import Idealize.ShloMosaic.PureOps
public import Mathlib.Algebra.BigOperators.Ring.Finset
public import Mathlib.Algebra.BigOperators.Fin
public import Mathlib.Data.EReal.Operations

@[expose] public section

noncomputable section

namespace Cert.Gcn

/-- A real matrix, entry by entry. -/
abbrev Mat (n m : ℕ) := Fin n → Fin m → ℝ

/-- The product of two matrices. -/
def mm {n k m : ℕ} (A : Mat n k) (B : Mat k m) : Mat n m := fun i j => ∑ t, A i t * B t j

/-- The product of matrices is associative. -/
theorem mm_assoc {n k l m : ℕ} (A : Mat n k) (B : Mat k l) (C : Mat l m) : mm (mm A B) C = mm A (mm B C) := by
  funext i j
  simp only [mm, Finset.sum_mul, Finset.mul_sum]
  rw [Finset.sum_comm]
  simp only [mul_assoc]

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A contraction of real entries in the extended reals is the real contraction. -/
theorem sum_mul_coe {n : ℕ} (f g : Fin n → ℝ) :
    ∑ t, ((f t : EReal) * (g t : EReal)) = ((∑ t, f t * g t : ℝ) : EReal) := by
  rw [coe_sum]; simp only [EReal.coe_mul]

/-- The larger of two reals, read in the extended reals. -/
theorem coe_max (x y : ℝ) : ((max x y : ℝ) : EReal) = max (x : EReal) (y : EReal) :=
  EReal.coe_strictMono.monotone.map_max

/-- One layer of the kernel: contract with the graph first, then with the weights, then shift, clip at zero and add the
    skip connection. -/
def layer {n k m : ℕ} (S : Mat n k) (W : Mat k m) (b : Fin m → ℝ) (z : Mat n m) : Mat n m :=
  fun i j => max (mm S W i j + b j) 0 + z i j

/-- An affine map of every row. -/
def affine {n k m : ℕ} (X : Mat n k) (W : Mat k m) (b : Fin m → ℝ) : Mat n m := fun i j => mm X W i j + b j

/-- The graph as the later passes read it back from its codes: whole numbers over 255. -/
def decoded {n k : ℕ} (C : Fin n → Fin k → ℕ) : Mat n k := fun i j => (C i j : ℝ) * 255⁻¹

/-- Scaling a contraction of codes scales every code. -/
theorem scaled_sum {n m : ℕ} (p : Fin n → ℕ) (X : Mat n m) (k : Fin m) :
    (∑ j, (p j : ℝ) * X j k) * 255⁻¹ = ∑ j, ((p j : ℝ) * 255⁻¹) * X j k := by
  rw [Finset.sum_mul]
  exact Finset.sum_congr rfl fun j _ => by ring

/-- What the last pass computes before the softmax: three contractions against their share of the weights, shifted. -/
def joined {n : ℕ} (S3 S2 S1 : Mat n 128) (Wa Wb Wc : Mat 128 64) (b : Fin 64 → ℝ) : Mat n 64 :=
  fun i h => mm S3 Wa i h + mm S2 Wb i h + mm S1 Wc i h + b h

/-- Rows 0 to 127 of the last weights. -/
def upper (M : Mat 384 64) : Mat 128 64 := fun j => M ⟨j.val, by omega⟩

/-- Rows 128 to 255 of the last weights. -/
def middle (M : Mat 384 64) : Mat 128 64 := fun j => M ⟨128 + j.val, by omega⟩

/-- Rows 256 to 383 of the last weights. -/
def lower (M : Mat 384 64) : Mat 128 64 := fun j => M ⟨256 + j.val, by omega⟩

/-- A sum over 384 places, taken by thirds. -/
theorem sum_thirds {R : Type*} [AddCommMonoid R] (f : Fin 384 → R) :
    ∑ j, f j = (∑ j : Fin 128, f ⟨j.val, by omega⟩) + (∑ j : Fin 128, f ⟨128 + j.val, by omega⟩)
      + ∑ j : Fin 128, f ⟨256 + j.val, by omega⟩ := by
  have h (a b : ℕ) (g : Fin (a + b) → R) : ∑ j, g j = (∑ j : Fin a, g ⟨j.val, by omega⟩) + ∑ j : Fin b, g ⟨a + j.val, by omega⟩ :=
    Fin.sum_univ_add g
  rw [h 256 128 f, h 128 128]

/-- Contracting the graph with three layers' values against their thirds of the weights is joining the three
    contractions. -/
theorem joined_eq {n : ℕ} (A : Mat n n) (X3 X2 X1 : Mat n 128) (M : Mat 384 64) (b : Fin 64 → ℝ) (i : Fin n) (k : Fin 64) :
    joined (mm A X3) (mm A X2) (mm A X1) (upper M) (middle M) (lower M) b i k
      = ∑ j, A i j * ((∑ t, X3 j t * upper M t k) + (∑ t, X2 j t * middle M t k) + ∑ t, X1 j t * lower M t k) + b k := by
  simp only [joined, mm_assoc, mul_add, Finset.sum_add_distrib]
  rfl

end Cert.Gcn

end
-- ==== Proof.Quantise.lean ====
/- The 8-bit code of an adjacency weight: what the kernel's conversions store, and the real number the later passes read
   back. -/
module

public import Idealize.ShloMosaic.PureOps
public import Idealize.ShloMosaic.Lib.IdealHost
public import Mathlib.Algebra.Order.Floor.Ring

@[expose] public section

noncomputable section

namespace Cert.Gcn

open Idealize.ShloMosaic

/-- The literal `255.0`, read as a real. -/
theorem lit_255 : Ideal.ofBits .f32 0x437F0000#32 = ((255 : ℝ) : EReal) := by
  simp [Ideal.ofBits, Ideal.ieee, -EReal.coe_mul]; norm_num

/-- The literal `0.5`, read as a real. -/
theorem lit_half : Ideal.ofBits .f32 0x3F000000#32 = ((1 / 2 : ℝ) : EReal) := by
  simp [Ideal.ofBits, Ideal.ieee, -EReal.coe_mul]; norm_num

/-- The code of a weight: `255 a` rounded to the nearest whole number, halves upward. -/
def code (a : ℝ) : ℤ := ⌊a * 255 + 1 / 2⌋

/-- A weight between 0 and 1 has a code between 0 and 255. -/
theorem code_bounds {a : ℝ} (h : 0 ≤ a) (h' : a ≤ 1) : 0 ≤ code a ∧ code a ≤ 255 := by
  constructor
  · exact Int.floor_nonneg.2 (by linarith)
  · exact Int.lt_add_one_iff.1 (Int.floor_lt.2 (by push_cast; linarith))

/-- Scaling a weight between 0 and 1 by 255, adding a half, rounding toward zero to 32 bits and keeping the low 8 stores
    its code. -/
theorem stored_code {a : ℝ} (h : 0 ≤ a) (h' : a ≤ 1) :
    (BitVec.setWidth 8 (FloatOps.fptosi (F := Ideal) (φ := .f32) 32
      ((a : EReal) * Ideal.ofBits .f32 0x437F0000#32 + Ideal.ofBits .f32 0x3F000000#32))).toNat = (code a).toNat := by
  obtain ⟨l, u⟩ := code_bounds h h'
  rw [lit_255, lit_half, ← EReal.coe_mul, ← EReal.coe_add]
  have : FloatOps.fptosi (F := Ideal) (φ := .f32) 32 ((a * 255 + 1 / 2 : ℝ) : EReal) = BitVec.ofInt 32 (code a) := by
    change BitVec.ofInt 32 (Ideal.toIntClamped _ _ _) = _
    rw [Ideal.toIntClamped_coe]
    rw [if_pos (by linarith)]
    change BitVec.ofInt 32 (max _ (min _ (code a))) = _
    rw [min_eq_right (by norm_num; omega), max_eq_right (by norm_num; omega)]
  rw [this]
  obtain ⟨n, hn⟩ := Int.eq_ofNat_of_zero_le l
  rw [hn] at u ⊢
  simp only [BitVec.toNat_setWidth, BitVec.toNat_ofInt]
  omega

/-- What a later pass reads back from 8 stored bits is the whole number they spell. -/
theorem read_code (w : BitVec 8) : FloatOps.uitofp (F := Ideal) .bf16 w = ((w.toNat : ℝ) : EReal) := by
  rfl

end Cert.Gcn

end
-- ==== Proof.LogSoftmax.lean ====
/- The logarithm of a softmax over a row of reals, however the row's largest entry is taken out first. -/
module

public import Idealize.ShloMosaic.PureOps
public import Idealize.ShloMosaic.Lib.IdealHost
public import proofs.«01_k».proof.Proof.RealMath
public import Mathlib.Analysis.SpecialFunctions.Log.Basic

@[expose] public section

noncomputable section

namespace Cert.Gcn

open Idealize.ShloMosaic

/-- The logarithm of the softmax of a row. -/
def logSoft {n : ℕ} (y : Fin n → ℝ) : Fin n → ℝ := fun h => y h - Real.log (∑ k, Real.exp (y k))

/-- Taking any number out of the row first changes nothing. -/
theorem log_shifted {n : ℕ} (y : Fin (n + 1) → ℝ) (c : ℝ) :
    Real.log (∑ k, Real.exp (y k - c)) = Real.log (∑ k, Real.exp (y k)) - c := by
  have hp : 0 < ∑ k, Real.exp (y k) := Finset.sum_pos (fun k _ => Real.exp_pos _) Finset.univ_nonempty
  simp only [Real.exp_sub]
  rw [← Finset.sum_div, Real.log_div hp.ne' (Real.exp_pos c).ne', Real.log_exp]

/-- The literal for minus infinity is the bottom of the extended reals. -/
theorem lit_bot : Ideal.ofBits .f32 0xFF800000#32 = (⊥ : EReal) := by
  simp [Ideal.ofBits, Ideal.ieee]

/-- The largest of a non-empty row of reals, started from minus infinity, is a real. -/
theorem largest_real {n : ℕ} (y : Fin (n + 1) → ℝ) :
    ∃ c : ℝ, Finset.fold max (⊥ : EReal) (fun k => (y k : EReal)) Finset.univ = (c : EReal) := by
  suffices H : ∀ s : Finset (Fin (n + 1)), s.Nonempty → ∃ c : ℝ, Finset.fold max (⊥ : EReal) (fun k => (y k : EReal)) s = (c : EReal) from
    H _ Finset.univ_nonempty
  intro s hs
  induction hs using Finset.Nonempty.cons_induction with
  | singleton a => exact ⟨y a, by simp⟩
  | cons a s ha _ ih =>
    obtain ⟨c, hc⟩ := ih
    exact ⟨max (y a) c, by rw [Finset.fold_cons, hc, coe_max]⟩

/-- The extended sum of exponentials of a shifted row has a real logarithm. -/
theorem log_sum_exp {n : ℕ} (y : Fin (n + 1) → ℝ) (c : ℝ) :
    Ideal.log (∑ k, Ideal.exp ((y k : EReal) - (c : EReal))) = ((Real.log (∑ k, Real.exp (y k)) - c : ℝ) : EReal) := by
  have hp : 0 < ∑ k, Real.exp (y k - c) := Finset.sum_pos (fun k _ => Real.exp_pos _) Finset.univ_nonempty
  simp only [← EReal.coe_sub, Ideal.exp_coe, ← coe_sum]
  rw [Ideal.log_coe, if_neg (not_le.2 hp), log_shifted]

/-- The kernel's way: the largest entry is added back to the logarithm, and both are taken off at once. -/
theorem logSoft_late {n : ℕ} (y : Fin (n + 1) → ℝ) (h : Fin (n + 1)) :
    (y h : EReal) - (Finset.fold max (Ideal.ofBits .f32 0xFF800000#32) (fun k => (y k : EReal)) Finset.univ
      + Ideal.log (∑ x, Ideal.exp ((y x : EReal)
          - Finset.fold max (Ideal.ofBits .f32 0xFF800000#32) (fun k => (y k : EReal)) Finset.univ)))
      = ((logSoft y h : ℝ) : EReal) := by
  rw [lit_bot]
  obtain ⟨c, hc⟩ := largest_real y
  rw [hc, log_sum_exp, ← EReal.coe_add, ← EReal.coe_sub]
  simp only [logSoft, add_sub_cancel]

/-- The problem's way: the largest entry is taken off first, the logarithm after it. -/
theorem logSoft_early {n : ℕ} (y : Fin (n + 1) → ℝ) (h : Fin (n + 1)) :
    ((y h : EReal) - Finset.fold max (Ideal.ofBits .f32 0xFF800000#32) (fun k => (y k : EReal)) Finset.univ)
      - Ideal.log (∑ x, Ideal.exp ((y x : EReal)
          - Finset.fold max (Ideal.ofBits .f32 0xFF800000#32) (fun k => (y k : EReal)) Finset.univ))
      = ((logSoft y h : ℝ) : EReal) := by
  rw [lit_bot]
  obtain ⟨c, hc⟩ := largest_real y
  rw [hc, log_sum_exp, ← EReal.coe_sub, ← EReal.coe_sub]
  simp only [logSoft, sub_sub_sub_cancel_right]

end Cert.Gcn

end
-- ==== Proof.Network.lean ====
/- The whole network over the reals. -/
module

public import proofs.«01_k».proof.Proof.RealMath
public import proofs.«01_k».proof.Proof.Quantise
public import proofs.«01_k».proof.Proof.LogSoftmax

@[expose] public section

noncomputable section

namespace Cert.Gcn

/-- The graph rounded to whole 255ths: every weight's code, over 255. -/
def codes (A : Mat 10000 10000) : Fin 10000 → Fin 10000 → ℕ := fun i j => (code (A i j)).toNat

/-- The real arguments of the network. -/
structure Params where
  /-- the features -/
  x : Mat 10000 128
  /-- the graph -/
  adj : Mat 10000 10000
  /-- the skip connection's weights -/
  weight : Mat 128 128
  /-- the skip connection's shift -/
  bias : Fin 128 → ℝ
  /-- the first layer's weights -/
  w1 : Mat 128 128
  /-- the first layer's shift -/
  b1 : Fin 128 → ℝ
  /-- the second layer's weights -/
  w2 : Mat 128 128
  /-- the second layer's shift -/
  b2 : Fin 128 → ℝ
  /-- the third layer's weights -/
  w3 : Mat 128 128
  /-- the third layer's shift -/
  b3 : Fin 128 → ℝ
  /-- the last layer's weights -/
  w4 : Mat 384 64
  /-- the last layer's shift -/
  b4 : Fin 64 → ℝ
  /-- every weight of the graph lies between 0 and 1 -/
  unit : ∀ i j, 0 ≤ adj i j ∧ adj i j ≤ 1

namespace Params

variable (p : Params)

/-- The rounded graph. -/
def q : Mat 10000 10000 := decoded (codes p.adj)

/-- The first layer's values: on the exact graph. -/
def x1 : Mat 10000 128 := layer (mm p.adj p.x) p.w1 p.b1 (affine p.x p.weight p.bias)

/-- The second layer's values: on the rounded graph. -/
def x2 : Mat 10000 128 := layer (mm p.q p.x1) p.w2 p.b2 p.x1

/-- The third layer's values. -/
def x3 : Mat 10000 128 := layer (mm p.q p.x2) p.w3 p.b3 p.x2

/-- The last layer's values, before the softmax. -/
def x4 : Mat 10000 64 := joined (mm p.q p.x3) (mm p.q p.x2) (mm p.q p.x1) (upper p.w4) (middle p.w4) (lower p.w4) p.b4

/-- The network's result. -/
def out : Mat 10000 64 := fun i => logSoft (p.x4 i)

/-- A code of a weight of the graph is the whole number the rounding gives. -/
theorem q_eq (i j : Fin 10000) : p.q i j = (code (p.adj i j) : ℝ) * 255⁻¹ := by
  have h := (code_bounds (p.unit i j).1 (p.unit i j).2).1
  have : (((code (p.adj i j)).toNat : ℤ) : ℝ) = (code (p.adj i j) : ℝ) := by rw [Int.toNat_of_nonneg h]
  rw [← this, Int.cast_natCast]
  rfl

end Params

end Cert.Gcn

end
-- ==== Proof.Region0.lean ====
/- The first pass: each point's rows of the first layer and of the graph's codes, and the arrays they leave. -/
module

public import proofs.«01_k».proof.Proof.Gen.KernelIdeal.Frame
public import proofs.«01_k».proof.Proof.RealMath
public import proofs.«01_k».proof.Proof.Quantise
public import Idealize.ShloMosaic.Lib.Pipeline.ValueKit
public import Idealize.ShloMosaic.Lib.Pointwise

@[expose] public section

set_option maxRecDepth 16384

noncomputable section

namespace Cert.Gcn.Region0

open Cert.KernelIdeal Cert.KernelIdeal.Gen Idealize.ShloMosaic Idealize.ShloMosaic.TcCoe Idealize.ShloMosaic.Pipeline

/-- On real blocks the first layer's stored rows are the layer on the point's rows of the graph. -/
theorem pay2_at (v0 : Vec Ideal S400x10000 .f32) (v9 : Vec Ideal S10000x128 .bf16) (v12 : Vec Ideal S400x128 .bf16)
    (v14 : Vec Ideal S128x128 .bf16) (v17 : Vec Ideal S1x128 .f32) (v22 : Vec Ideal S128x128 .bf16) (v25 : Vec Ideal S1x128 .f32)
    (r : Fin 400) (h : Fin 128) (a : Fin 10000 → ℝ) (X : Mat 10000 128) (x : Fin 128 → ℝ) (W : Mat 128 128) (b : Fin 128 → ℝ)
    (W1 : Mat 128 128) (b1 : Fin 128 → ℝ)
    (h0 : ∀ j, v0 (ix2 r j) = (a j : EReal)) (h9 : ∀ j k, v9 (ix2 j k) = (X j k : EReal))
    (h12 : ∀ k, v12 (ix2 r k) = (x k : EReal)) (h14 : ∀ j k, v14 (ix2 j k) = (W j k : EReal))
    (h17 : ∀ k, v17 (ix2 0 k) = (b k : EReal)) (h22 : ∀ j k, v22 (ix2 j k) = (W1 j k : EReal))
    (h25 : ∀ k, v25 (ix2 0 k) = (b1 k : EReal)) :
    k0_pay2 v0 v9 v12 v14 v17 v22 v25 (ix2 r h)
      = ((max (∑ k, (∑ j, a j * X j k) * W1 k h + b1 h) 0 + (∑ k, x k * W k h + b h) : ℝ) : EReal) := by
  pointwise [k0_pay2]
  simp only [h0, h9, h12, h14, h17, h22, h25, EReal.coe_add, coe_max, coe_sum, EReal.coe_mul, EReal.coe_zero]

/-- On a real block the stored code of a weight between 0 and 1 is its whole number of 255ths, rounded. -/
theorem pay1_at (v0 : Vec Ideal S400x10000 .f32) (r : Fin 400) (j : Fin 10000) (a : ℝ) (h0 : v0 (ix2 r j) = (a : EReal))
    (ha : 0 ≤ a) (ha' : a ≤ 1) :
    (k0_pay1 v0 (ix2 r j)).toNat = (code a).toNat := by
  pointwise [k0_pay1]
  simp only [h0]
  exact stored_code ha ha'

variable (V : (c : Dev nD) → (b : Ref sig .tc) → Buf (Elt Ideal) ((c : Thread nD τ).loc b))

/-- Where a point's blocks lie: its own rows of the graph, features, codes and result; the whole of the rest. -/
theorem idx0 : ∀ t : Fin cfg0.N, win0_0.index t = ![(grid0.coords t 0).val, 0] ∧ win0_1.index t = ![0, 0]
    ∧ win0_2.index t = ![(grid0.coords t 0).val, 0] ∧ win0_3.index t = ![0, 0] ∧ win0_4.index t = ![0, 0]
    ∧ win0_5.index t = ![0, 0] ∧ win0_6.index t = ![0, 0] ∧ win0_7.index t = ![(grid0.coords t 0).val, 0]
    ∧ win0_8.index t = ![(grid0.coords t 0).val, 0] := by decide +kernel

section Blocks

variable (c : Dev nD) (t : Fin cfg0.N)

/-- A point's rows of the graph are the array's, 400 rows a point. -/
theorem blk_adj {r : Fin 400} {R : Fin 10000} (hR : R.val = (grid0.coords t 0).val * 400 + r.val) (j : Fin 10000) :
    iblk0 V c 0 t (ix2 r j) = V c main_arg1 (ix2 R j) := by blk_ext [iblk0, idx0 t, hR]

/-- Every point sees all the features. -/
theorem blk_x (j : Fin 10000) (k : Fin 128) : iblk0 V c 1 t (ix2 j k) = V c main_v0 (ix2 j k) := by blk_ext [iblk0, idx0 t]

/-- A point's own rows of the features. -/
theorem blk_rows {r : Fin 400} {R : Fin 10000} (hR : R.val = (grid0.coords t 0).val * 400 + r.val) (k : Fin 128) :
    iblk0 V c 2 t (ix2 r k) = V c main_v0 (ix2 R k) := by blk_ext [iblk0, idx0 t, hR]

/-- Every point sees all of the skip weights. -/
theorem blk_w (j k : Fin 128) : iblk0 V c 3 t (ix2 j k) = V c main_v1 (ix2 j k) := by blk_ext [iblk0, idx0 t]

/-- Every point sees all of the skip shift. -/
theorem blk_b (k : Fin 128) : iblk0 V c 4 t (ix2 0 k) = V c main_v2 (ix2 0 k) := by blk_ext [iblk0, idx0 t]

/-- Every point sees all of the first layer's weights. -/
theorem blk_w1 (j k : Fin 128) : iblk0 V c 5 t (ix2 j k) = V c main_v3 (ix2 j k) := by blk_ext [iblk0, idx0 t]

/-- Every point sees all of the first layer's shift. -/
theorem blk_b1 (k : Fin 128) : iblk0 V c 6 t (ix2 0 k) = V c main_v4 (ix2 0 k) := by blk_ext [iblk0, idx0 t]

/-- Where a point's block of layer-one values lies. -/
theorem place_x1 (r : Fin 400) (k : Fin 128) : ∃ R : Fin 10000, R.val = (grid0.coords t 0).val * 400 + r.val ∧
    ((View.whole main_v5_1).slice (win0_8.rect t)).emb (ix2 r k) = ix2 R k := by
  have h : (((View.whole main_v5_1).slice (win0_8.rect t)).emb (ix2 r k) 0).val = (grid0.coords t 0).val * 400 + r.val := by
    blk_ext [idx0 t]
  exact ⟨_, h, by blk_ext [idx0 t]⟩

/-- Where a point's block of codes lies. -/
theorem place_code (r : Fin 400) (k : Fin 10000) : ∃ R : Fin 10000, R.val = (grid0.coords t 0).val * 400 + r.val ∧
    ((View.whole main_v5_0).slice (win0_7.rect t)).emb (ix2 r k) = ix2 R k := by
  have h : (((View.whole main_v5_0).slice (win0_7.rect t)).emb (ix2 r k) 0).val = (grid0.coords t 0).val * 400 + r.val := by
    blk_ext [idx0 t]
  exact ⟨_, h, by blk_ext [idx0 t]⟩

end Blocks

/-- The first pass's values: layer one of the network on the exact graph, with its skip connection. -/
theorem x1_arr (c : Dev nD) (A : Mat 10000 10000) (X : Mat 10000 128) (W : Mat 128 128) (b : Fin 128 → ℝ)
    (W1 : Mat 128 128) (b1 : Fin 128 → ℝ)
    (h0 : ∀ i j, V c main_arg1 (ix2 i j) = (A i j : EReal)) (h9 : ∀ j k, V c main_v0 (ix2 j k) = (X j k : EReal))
    (h14 : ∀ j k, V c main_v1 (ix2 j k) = (W j k : EReal))
    (h17 : ∀ k, V c main_v2 (ix2 0 k) = (b k : EReal)) (h22 : ∀ j k, V c main_v3 (ix2 j k) = (W1 j k : EReal))
    (h25 : ∀ k, V c main_v4 (ix2 0 k) = (b1 k : EReal)) :
    (dat0 V c).arrAt 8 cfg0.N = fun i => ((layer (mm A X) W1 b1 (affine X W b) (i 0) (i 1) : ℝ) : EReal) := by
  refine (dat0 V c).arrAt_eq_of_covers 8 _ (by decide +kernel) fun t hf y => ?_
  blk_simp
  rw [after0_8]
  frame_out
  obtain ⟨r, k, rfl⟩ : ∃ (r : Fin 400) (k : Fin 128), y = ix2 r k := ⟨y 0, y 1, eq_ix2 y⟩
  obtain ⟨R, hR, e⟩ := place_x1 t r k
  rw [e]
  exact pay2_at _ _ _ _ _ _ _ r k (A R) X (X R) W b W1 b1 (fun j => (blk_adj V c t hR j).trans (h0 R j))
    (fun j k => (blk_x V c t j k).trans (h9 j k)) (fun k => (blk_rows V c t hR k).trans (h9 R k))
    (fun j k => (blk_w V c t j k).trans (h14 j k)) (fun k => (blk_b V c t k).trans (h17 k))
    (fun j k => (blk_w1 V c t j k).trans (h22 j k)) (fun k => (blk_b1 V c t k).trans (h25 k))

/-- The first pass's other output: the codes of the graph's entries. -/
theorem code_arr (c : Dev nD) (A : Mat 10000 10000) (h0 : ∀ i j, V c main_arg1 (ix2 i j) = (A i j : EReal))
    (hA : ∀ i j, 0 ≤ A i j ∧ A i j ≤ 1) :
    (dat0 V c).arrAt 7 cfg0.N = fun i => BitVec.ofNat 8 (code (A (i 0) (i 1))).toNat := by
  refine (dat0 V c).arrAt_eq_of_covers 7 _ (by decide +kernel) fun t hf y => ?_
  blk_simp
  rw [after0_7]
  frame_out
  obtain ⟨r, k, rfl⟩ : ∃ (r : Fin 400) (k : Fin 10000), y = ix2 r k := ⟨y 0, y 1, eq_ix2 y⟩
  obtain ⟨R, hR, e⟩ := place_code t r k
  rw [e]
  refine BitVec.eq_of_toNat_eq ?_
  refine (pay1_at _ r k (A R k) ((blk_adj V c t hR k).trans (h0 R k)) (hA R k).1 (hA R k).2).trans ?_
  have := code_bounds (hA R k).1 (hA R k).2
  change (code (A R k)).toNat = (BitVec.ofNat 8 (code (A R k)).toNat).toNat
  rw [BitVec.toNat_ofNat]
  omega

end Cert.Gcn.Region0

end
-- ==== Proof.Sweep.lean ====
/- One sweep of a later pass over a row of the stored graph: five pieces of the row against five pieces of the features,
   added up, are the whole row against all the features. -/
module

public import proofs.«01_k».proof.Proof.Gen.KernelIdeal.Frame
public import proofs.«01_k».proof.Proof.RealMath
public import proofs.«01_k».proof.Proof.Quantise
public import proofs.«01_k».proof.Proof.LogSoftmax
public import Idealize.ShloMosaic.Lib.Pipeline.ValueKit
public import Idealize.ShloMosaic.Lib.Pointwise
public import Mathlib.Algebra.BigOperators.Fin

@[expose] public section

set_option maxRecDepth 16384

noncomputable section

namespace Cert.Gcn

open Cert.KernelIdeal Cert.KernelIdeal.Gen Idealize.ShloMosaic Idealize.ShloMosaic.TcCoe Idealize.ShloMosaic.Pipeline

/-- A sum over 10000 places, taken in four runs of 2048 and one of 1808. -/
theorem sum_pieces (f : Fin 10000 → ℝ) :
    ∑ j, f j = (∑ j : Fin 2048, f ⟨j.val, by omega⟩) + (∑ j : Fin 2048, f ⟨2048 + j.val, by omega⟩)
      + (∑ j : Fin 2048, f ⟨4096 + j.val, by omega⟩) + (∑ j : Fin 2048, f ⟨6144 + j.val, by omega⟩)
      + ∑ j : Fin 1808, f ⟨8192 + j.val, by omega⟩ := by
  have h (a b : ℕ) (g : Fin (a + b) → ℝ) : ∑ j, g j = (∑ j : Fin a, g ⟨j.val, by omega⟩) + ∑ j : Fin b, g ⟨a + j.val, by omega⟩ :=
    Fin.sum_univ_add g
  rw [h 8192 1808 f, h 6144 2048, h 4096 2048, h 2048 2048]

/-- A sweep over a row of codes gives the row's contraction with the features, exactly. -/
theorem sweep_at (x0 : Vec Ideal S1000x10000 .i8) (x1 : Vec Ideal S10000x128 .bf16) (r : Fin 1000) (h : Fin 128)
    (n : Fin 10000 → ℕ) (X : Mat 10000 128) (h0 : ∀ j, (x0 (ix2 r j)).toNat = n j) (h1 : ∀ j k, x1 (ix2 j k) = (X j k : EReal)) :
    k1_pay4 (F := Ideal) (View.ld x0 r1_0) (View.ld x1 r1_1) (View.ld x0 r1_2) (View.ld x1 r1_3) (View.ld x0 r1_4) (View.ld x1 r1_5)
      (View.ld x0 r1_6) (View.ld x1 r1_7) (View.ld x0 r1_8) (View.ld x1 r1_9) (ix2 r h)
      = ((∑ j, (n j : ℝ) * X j h : ℝ) : EReal) := by
  pointwise [k1_pay4]
  simp only [read_code, h0, h1, sum_mul_coe, ← EReal.coe_add]
  rw [sum_pieces]

/-- The named reciprocal is the real number it stands for. -/
theorem inv255_eq : Named.named (F := Ideal) Cert.KernelIdeal.κ "inv255" (φ := .f32) 0x3B808081#32 = ((255⁻¹ : ℝ) : EReal) :=
  IdealRules.named_const.ideal_named_scalar _ _ _ _ rfl

/-- A middle pass's stored contraction: the sweep, scaled by the reciprocal of 255. -/
theorem scaled_at (v33 : FVec Ideal S1000x128 .f32) (r : Fin 1000) (h : Fin 128) (s : ℝ) (hs : v33 (ix2 r h) = (s : EReal)) :
    k1_pay2 (F := Ideal) v33 (ix2 r h) = ((s * 255⁻¹ : ℝ) : EReal) := by
  pointwise [k1_pay2, k1_pay1]
  simp only [hs, inv255_eq, EReal.coe_mul]

/-- A middle pass's values at one place: the scaled sweep against the weights, shifted, clipped at zero, with the skip
    connection added. -/
theorem mid_at (v33 : FVec Ideal S1000x128 .f32) (v39 : Vec Ideal S128x128 .bf16) (v42 : Vec Ideal S1x128 .f32)
    (v48 : Vec Ideal S1000x128 .bf16) (r : Fin 1000) (h : Fin 128) (s : Fin 128 → ℝ) (W : Mat 128 128) (b : Fin 128 → ℝ) (z : ℝ)
    (hs : ∀ k, v33 (ix2 r k) = (s k : EReal)) (hW : ∀ j k, v39 (ix2 j k) = (W j k : EReal))
    (hb : ∀ k, v42 (ix2 0 k) = (b k : EReal)) (hz : v48 (ix2 r h) = (z : EReal)) :
    k1_pay3 (F := Ideal) v33 v39 v42 v48 (ix2 r h) = ((max (∑ k, s k * 255⁻¹ * W k h + b h) 0 + z : ℝ) : EReal) := by
  pointwise [k1_pay3, k1_pay1]
  simp only [hs, hW, hb, hz, inv255_eq, EReal.coe_add, coe_max, coe_sum, EReal.coe_mul, EReal.coe_zero]

/-- What the five input blocks of a middle pass's point number `n` show of the arrays: 1000 rows of the codes and of the
    features, all the features, the weights and the shift. -/
structure Shows (n : ℕ) (x0 : Vec Ideal S1000x10000 .i8) (x1 : Vec Ideal S10000x128 .bf16) (x2 : Vec Ideal S1000x128 .bf16)
    (x3 : Vec Ideal S128x128 .bf16) (x4 : Vec Ideal S1x128 .f32) (a0 : Vec Ideal S10000x10000 .i8) (a1 : Vec Ideal S10000x128 .bf16)
    (a3 : Vec Ideal S128x128 .bf16) (a4 : Vec Ideal S1x128 .f32) : Prop where
  code : ∀ (r : Fin 1000) (R : Fin 10000), R.val = n * 1000 + r.val → ∀ j : Fin 10000, x0 (ix2 r j) = a0 (ix2 R j)
  all : ∀ (j : Fin 10000) (k : Fin 128), x1 (ix2 j k) = a1 (ix2 j k)
  rows : ∀ (r : Fin 1000) (R : Fin 10000), R.val = n * 1000 + r.val → ∀ k : Fin 128, x2 (ix2 r k) = a1 (ix2 R k)
  weights : ∀ j k : Fin 128, x3 (ix2 j k) = a3 (ix2 j k)
  shift : ∀ k : Fin 128, x4 (ix2 0 k) = a4 (ix2 0 k)

section Mid

variable {n : ℕ} {x0 : Vec Ideal S1000x10000 .i8} {x1 : Vec Ideal S10000x128 .bf16} {x2 : Vec Ideal S1000x128 .bf16}
  {x3 : Vec Ideal S128x128 .bf16} {x4 : Vec Ideal S1x128 .f32} {a0 : Vec Ideal S10000x10000 .i8} {a1 : Vec Ideal S10000x128 .bf16}
  {a3 : Vec Ideal S128x128 .bf16} {a4 : Vec Ideal S1x128 .f32} (g : Shows n x0 x1 x2 x3 x4 a0 a1 a3 a4)
  (C : Fin 10000 → Fin 10000 → ℕ) (X : Mat 10000 128) (h0 : ∀ i j, (a0 (ix2 i j)).toNat = C i j)
  (h1 : ∀ j k, a1 (ix2 j k) = (X j k : EReal)) {r : Fin 1000} {R : Fin 10000} (hR : R.val = n * 1000 + r.val) (k : Fin 128)

include g h0 h1 hR

/-- A middle pass's point sweeps each of its rows against the features. -/
theorem mid_sweep : k1_pay5 (F := Ideal) x0 x1 x2 x3 x4 (ix2 r k) = ((∑ j, (C R j : ℝ) * X j k : ℝ) : EReal) :=
  sweep_at _ _ r k (C R) X (fun j => (congrArg BitVec.toNat (g.code r R hR j)).trans (h0 R j))
    (fun j k => (g.all j k).trans (h1 j k))

/-- What a middle pass stores of its contraction: the decoded graph against the features. -/
theorem mid_s : k1_pay2 (F := Ideal) (k1_pay5 x0 x1 x2 x3 x4) (ix2 r k) = ((mm (decoded C) X R k : ℝ) : EReal) := by
  refine (scaled_at _ r k _ (mid_sweep g C X h0 h1 hR k)).trans ?_
  rw [scaled_sum]
  rfl

/-- What a middle pass stores of its values: a layer of the network on the decoded graph, with its skip connection. -/
theorem mid_x (W : Mat 128 128) (b : Fin 128 → ℝ) (hW : ∀ j k, a3 (ix2 j k) = (W j k : EReal))
    (hb : ∀ k, a4 (ix2 0 k) = (b k : EReal)) :
    k1_pay3 (F := Ideal) (k1_pay5 x0 x1 x2 x3 x4) x3 x4 x2 (ix2 r k) = ((layer (mm (decoded C) X) W b X R k : ℝ) : EReal) := by
  refine (mid_at _ _ _ _ r k (fun k => ∑ j, (C R j : ℝ) * X j k) W b (X R k) (fun k => mid_sweep g C X h0 h1 hR k)
    (fun j k => (g.weights j k).trans (hW j k)) (fun k => (g.shift k).trans (hb k)) ((g.rows r R hR k).trans (h1 R k))).trans ?_
  simp only [scaled_sum]
  rfl

end Mid

/-- The last pass at one place: the three contractions against their share of the weights, shifted, under the logarithm of
    the softmax of the row. -/
theorem last_at (v33 : FVec Ideal S1000x128 .f32) (v37 : Vec Ideal S128x64 .bf16) (v40 : Vec Ideal S1000x128 .bf16)
    (v42 : Vec Ideal S128x64 .bf16) (v46 : Vec Ideal S1000x128 .bf16) (v48 : Vec Ideal S128x64 .bf16) (v52 : Vec Ideal S1x64 .f32)
    (r : Fin 1000) (h : Fin 64) (s3 s2 s1 : Fin 128 → ℝ) (Wa Wb Wc : Mat 128 64) (b : Fin 64 → ℝ)
    (hs3 : ∀ k, v33 (ix2 r k) = (s3 k : EReal)) (hs2 : ∀ k, v40 (ix2 r k) = (s2 k : EReal))
    (hs1 : ∀ k, v46 (ix2 r k) = (s1 k : EReal)) (ha : ∀ j k, v37 (ix2 j k) = (Wa j k : EReal))
    (hb : ∀ j k, v42 (ix2 j k) = (Wb j k : EReal)) (hc : ∀ j k, v48 (ix2 j k) = (Wc j k : EReal))
    (h4 : ∀ k, v52 (ix2 0 k) = (b k : EReal)) :
    k3_pay1 (F := Ideal) v33 v37 v40 v42 v46 v48 v52 (ix2 r h)
      = ((logSoft (fun h => (∑ k, s3 k * 255⁻¹ * Wa k h) + (∑ k, s2 k * Wb k h) + (∑ k, s1 k * Wc k h) + b h) h : ℝ) : EReal) := by
  pointwise [k3_pay1]
  simp only [hs3, hs2, hs1, ha, hb, hc, h4, inv255_eq, ← EReal.coe_mul, ← coe_sum, ← EReal.coe_add]
  exact logSoft_late (fun h => (∑ k, s3 k * 255⁻¹ * Wa k h) + (∑ k, s2 k * Wb k h) + (∑ k, s1 k * Wc k h) + b h) h

end Cert.Gcn

end
-- ==== Proof.Region1.lean ====
/- The first middle pass's two arrays as whole matrices, from the contents it is entered with. -/
module

public import proofs.«01_k».proof.Proof.Sweep

@[expose] public section

set_option maxRecDepth 16384

noncomputable section

namespace Cert.Gcn.Region1

open Cert.KernelIdeal Cert.KernelIdeal.Gen Idealize.ShloMosaic Idealize.ShloMosaic.TcCoe Idealize.ShloMosaic.Pipeline

variable (V : (c : Dev nD) → (b : Ref sig .tc) → Buf (Elt Ideal) ((c : Thread nD τ).loc b)) (c : Dev nD) (t : Fin cfg1.N)

/-- Which block of its array each window shows at a point: the point's rows, or the whole array. -/
theorem idx : ∀ t : Fin cfg1.N, win1_0.index t = ![(grid1.coords t 0).val, 0] ∧ win1_1.index t = ![0, 0]
    ∧ win1_2.index t = ![(grid1.coords t 0).val, 0] ∧ win1_3.index t = ![0, 0] ∧ win1_4.index t = ![0, 0]
    ∧ win1_5.index t = ![(grid1.coords t 0).val, 0] ∧ win1_6.index t = ![(grid1.coords t 0).val, 0] := by decide +kernel

/-- What a point's blocks show of this pass's arrays. -/
theorem shows : Shows (grid1.coords t 0).val (iblk1 V c 0 t) (iblk1 V c 1 t) (iblk1 V c 2 t) (iblk1 V c 3 t) (iblk1 V c 4 t)
    (V c main_v5_0) (V c main_v5_1) (V c main_v6) (V c main_v7) where
  code r R hR j := by blk_ext [iblk1, idx t, hR]
  all j k := by blk_ext [iblk1, idx t]
  rows r R hR k := by blk_ext [iblk1, idx t, hR]
  weights j k := by blk_ext [iblk1, idx t]
  shift k := by blk_ext [iblk1, idx t]

/-- Where a point's blocks of the values and of the contraction lie: at the same 1000 rows. -/
theorem place (r : Fin 1000) (k : Fin 128) : ∃ R : Fin 10000, R.val = (grid1.coords t 0).val * 1000 + r.val ∧
    ((View.whole main_v8_0).slice (win1_5.rect t)).emb (ix2 r k) = ix2 R k ∧
    ((View.whole main_v8_1).slice (win1_6.rect t)).emb (ix2 r k) = ix2 R k := by
  have h : (((View.whole main_v8_0).slice (win1_5.rect t)).emb (ix2 r k) 0).val = (grid1.coords t 0).val * 1000 + r.val := by
    blk_ext [idx t]
  exact ⟨_, h, by blk_ext [idx t], by blk_ext [idx t]⟩

variable (C : Fin 10000 → Fin 10000 → ℕ) (X : Mat 10000 128)
  (h0 : ∀ i j, (V c main_v5_0 (ix2 i j) : BitVec 8).toNat = C i j) (h1 : ∀ j k, V c main_v5_1 (ix2 j k) = (X j k : EReal))

include h0 h1

/-- The pass's contraction: the decoded graph against the features. -/
theorem s_arr : (dat1 V c).arrAt 6 cfg1.N = fun i => ((mm (decoded C) X (i 0) (i 1) : ℝ) : EReal) := by
  refine (dat1 V c).arrAt_eq_of_covers 6 _ (by decide +kernel) fun t hf y => ?_
  blk_simp
  rw [after1_6]
  frame_out
  obtain ⟨r, k, rfl⟩ : ∃ (r : Fin 1000) (k : Fin 128), y = ix2 r k := ⟨y 0, y 1, eq_ix2 y⟩
  obtain ⟨R, hR, -, e⟩ := place t r k
  rw [e]
  exact mid_s (shows V c t) C X h0 h1 hR k

/-- The pass's values: a layer of the network on the decoded graph, with its skip connection. -/
theorem x_arr (W : Mat 128 128) (b : Fin 128 → ℝ) (hW : ∀ j k, V c main_v6 (ix2 j k) = (W j k : EReal))
    (hb : ∀ k, V c main_v7 (ix2 0 k) = (b k : EReal)) :
    (dat1 V c).arrAt 5 cfg1.N = fun i => ((layer (mm (decoded C) X) W b X (i 0) (i 1) : ℝ) : EReal) := by
  refine (dat1 V c).arrAt_eq_of_covers 5 _ (by decide +kernel) fun t hf y => ?_
  blk_simp
  rw [after1_5]
  frame_out
  obtain ⟨r, k, rfl⟩ : ∃ (r : Fin 1000) (k : Fin 128), y = ix2 r k := ⟨y 0, y 1, eq_ix2 y⟩
  obtain ⟨R, hR, e, -⟩ := place t r k
  rw [e]
  exact mid_x (shows V c t) C X h0 h1 hR k W b hW hb

end Cert.Gcn.Region1

end
-- ==== Proof.Region2.lean ====
/- The second middle pass's two arrays as whole matrices, from the contents it is entered with. -/
module

public import proofs.«01_k».proof.Proof.Sweep

@[expose] public section

set_option maxRecDepth 16384

noncomputable section

namespace Cert.Gcn.Region2

open Cert.KernelIdeal Cert.KernelIdeal.Gen Idealize.ShloMosaic Idealize.ShloMosaic.TcCoe Idealize.ShloMosaic.Pipeline

variable (V : (c : Dev nD) → (b : Ref sig .tc) → Buf (Elt Ideal) ((c : Thread nD τ).loc b)) (c : Dev nD) (t : Fin cfg2.N)

/-- Which block of its array each window shows at a point: the point's rows, or the whole array. -/
theorem idx : ∀ t : Fin cfg2.N, win2_0.index t = ![(grid2.coords t 0).val, 0] ∧ win2_1.index t = ![0, 0]
    ∧ win2_2.index t = ![(grid2.coords t 0).val, 0] ∧ win2_3.index t = ![0, 0] ∧ win2_4.index t = ![0, 0]
    ∧ win2_5.index t = ![(grid2.coords t 0).val, 0] ∧ win2_6.index t = ![(grid2.coords t 0).val, 0] := by decide +kernel

/-- What a point's blocks show of this pass's arrays. -/
theorem shows : Shows (grid2.coords t 0).val (iblk2 V c 0 t) (iblk2 V c 1 t) (iblk2 V c 2 t) (iblk2 V c 3 t) (iblk2 V c 4 t)
    (V c main_v5_0) (V c main_v8_0) (V c main_v9) (V c main_v10) where
  code r R hR j := by blk_ext [iblk2, idx t, hR]
  all j k := by blk_ext [iblk2, idx t]
  rows r R hR k := by blk_ext [iblk2, idx t, hR]
  weights j k := by blk_ext [iblk2, idx t]
  shift k := by blk_ext [iblk2, idx t]

/-- Where a point's blocks of the values and of the contraction lie: at the same 1000 rows. -/
theorem place (r : Fin 1000) (k : Fin 128) : ∃ R : Fin 10000, R.val = (grid2.coords t 0).val * 1000 + r.val ∧
    ((View.whole main_v11_0).slice (win2_5.rect t)).emb (ix2 r k) = ix2 R k ∧
    ((View.whole main_v11_1).slice (win2_6.rect t)).emb (ix2 r k) = ix2 R k := by
  have h : (((View.whole main_v11_0).slice (win2_5.rect t)).emb (ix2 r k) 0).val = (grid2.coords t 0).val * 1000 + r.val := by
    blk_ext [idx t]
  exact ⟨_, h, by blk_ext [idx t], by blk_ext [idx t]⟩

variable (C : Fin 10000 → Fin 10000 → ℕ) (X : Mat 10000 128)
  (h0 : ∀ i j, (V c main_v5_0 (ix2 i j) : BitVec 8).toNat = C i j) (h1 : ∀ j k, V c main_v8_0 (ix2 j k) = (X j k : EReal))

include h0 h1

/-- The pass's contraction: the decoded graph against the features. -/
theorem s_arr : (dat2 V c).arrAt 6 cfg2.N = fun i => ((mm (decoded C) X (i 0) (i 1) : ℝ) : EReal) := by
  refine (dat2 V c).arrAt_eq_of_covers 6 _ (by decide +kernel) fun t hf y => ?_
  blk_simp
  rw [after2_6]
  frame_out
  obtain ⟨r, k, rfl⟩ : ∃ (r : Fin 1000) (k : Fin 128), y = ix2 r k := ⟨y 0, y 1, eq_ix2 y⟩
  obtain ⟨R, hR, -, e⟩ := place t r k
  rw [e]
  exact mid_s (shows V c t) C X h0 h1 hR k

/-- The pass's values: a layer of the network on the decoded graph, with its skip connection. -/
theorem x_arr (W : Mat 128 128) (b : Fin 128 → ℝ) (hW : ∀ j k, V c main_v9 (ix2 j k) = (W j k : EReal))
    (hb : ∀ k, V c main_v10 (ix2 0 k) = (b k : EReal)) :
    (dat2 V c).arrAt 5 cfg2.N = fun i => ((layer (mm (decoded C) X) W b X (i 0) (i 1) : ℝ) : EReal) := by
  refine (dat2 V c).arrAt_eq_of_covers 5 _ (by decide +kernel) fun t hf y => ?_
  blk_simp
  rw [after2_5]
  frame_out
  obtain ⟨r, k, rfl⟩ : ∃ (r : Fin 1000) (k : Fin 128), y = ix2 r k := ⟨y 0, y 1, eq_ix2 y⟩
  obtain ⟨R, hR, e, -⟩ := place t r k
  rw [e]
  exact mid_x (shows V c t) C X h0 h1 hR k W b hW hb

end Cert.Gcn.Region2

end
-- ==== Proof.Region3.lean ====
/- The last pass's array, the result of the whole program, from the contents the pass is entered with. -/
module

public import proofs.«01_k».proof.Proof.Sweep

@[expose] public section

set_option maxRecDepth 16384

noncomputable section

namespace Cert.Gcn.Region3

open Cert.KernelIdeal Cert.KernelIdeal.Gen Idealize.ShloMosaic Idealize.ShloMosaic.TcCoe Idealize.ShloMosaic.Pipeline

variable (V : (c : Dev nD) → (b : Ref sig .tc) → Buf (Elt Ideal) ((c : Thread nD τ).loc b)) (c : Dev nD) (t : Fin cfg3.N)

/-- Which block of its array each window shows at a point: the point's rows, or the whole array. -/
theorem idx : ∀ t : Fin cfg3.N, win3_0.index t = ![(grid3.coords t 0).val, 0] ∧ win3_1.index t = ![0, 0]
    ∧ win3_2.index t = ![(grid3.coords t 0).val, 0] ∧ win3_3.index t = ![(grid3.coords t 0).val, 0] ∧ win3_4.index t = ![0, 0]
    ∧ win3_5.index t = ![0, 0] ∧ win3_6.index t = ![0, 0] ∧ win3_7.index t = ![0, 0]
    ∧ win3_8.index t = ![(grid3.coords t 0).val, 0] := by decide +kernel

/-- A point's rows of the codes are the array's, 1000 rows a point. -/
theorem blk_code {r : Fin 1000} {R : Fin 10000} (hR : R.val = (grid3.coords t 0).val * 1000 + r.val) (j : Fin 10000) :
    iblk3 V c 0 t (ix2 r j) = V c main_v5_0 (ix2 R j) := by blk_ext [iblk3, idx t, hR]

/-- Every point sees all the features. -/
theorem blk_x (j : Fin 10000) (k : Fin 128) : iblk3 V c 1 t (ix2 j k) = V c main_v11_0 (ix2 j k) := by blk_ext [iblk3, idx t]

/-- A point's own rows of the first stored contraction. -/
theorem blk_s1 {r : Fin 1000} {R : Fin 10000} (hR : R.val = (grid3.coords t 0).val * 1000 + r.val) (k : Fin 128) :
    iblk3 V c 2 t (ix2 r k) = V c main_v8_1 (ix2 R k) := by blk_ext [iblk3, idx t, hR]

/-- A point's own rows of the second stored contraction. -/
theorem blk_s2 {r : Fin 1000} {R : Fin 10000} (hR : R.val = (grid3.coords t 0).val * 1000 + r.val) (k : Fin 128) :
    iblk3 V c 3 t (ix2 r k) = V c main_v11_1 (ix2 R k) := by blk_ext [iblk3, idx t, hR]

/-- Every point sees the first third of the weights. -/
theorem blk_wa (j : Fin 128) (k : Fin 64) : iblk3 V c 4 t (ix2 j k) = V c main_v13 (ix2 j k) := by blk_ext [iblk3, idx t]

/-- Every point sees the second third of the weights. -/
theorem blk_wb (j : Fin 128) (k : Fin 64) : iblk3 V c 5 t (ix2 j k) = V c main_v15 (ix2 j k) := by blk_ext [iblk3, idx t]

/-- Every point sees the last third of the weights. -/
theorem blk_wc (j : Fin 128) (k : Fin 64) : iblk3 V c 6 t (ix2 j k) = V c main_v17 (ix2 j k) := by blk_ext [iblk3, idx t]

/-- Every point sees all of the last shift. -/
theorem blk_b (k : Fin 64) : iblk3 V c 7 t (ix2 0 k) = V c main_v18 (ix2 0 k) := by blk_ext [iblk3, idx t]

/-- Where a point's block of the result lies. -/
theorem place (r : Fin 1000) (k : Fin 64) : ∃ R : Fin 10000, R.val = (grid3.coords t 0).val * 1000 + r.val ∧
    ((View.whole main_v19).slice (win3_8.rect t)).emb (ix2 r k) = ix2 R k := by
  have h : (((View.whole main_v19).slice (win3_8.rect t)).emb (ix2 r k) 0).val = (grid3.coords t 0).val * 1000 + r.val := by
    blk_ext [idx t]
  exact ⟨_, h, by blk_ext [idx t]⟩

/-- The program's result: the logarithm of the softmax of every row of the joined contractions. -/
theorem out_arr (C : Fin 10000 → Fin 10000 → ℕ) (X S1 S2 : Mat 10000 128) (Wa Wb Wc : Mat 128 64) (b : Fin 64 → ℝ)
    (h0 : ∀ i j, (V c main_v5_0 (ix2 i j) : BitVec 8).toNat = C i j) (h1 : ∀ j k, V c main_v11_0 (ix2 j k) = (X j k : EReal))
    (hs1 : ∀ j k, V c main_v8_1 (ix2 j k) = (S1 j k : EReal)) (hs2 : ∀ j k, V c main_v11_1 (ix2 j k) = (S2 j k : EReal))
    (ha : ∀ j k, V c main_v13 (ix2 j k) = (Wa j k : EReal)) (hb : ∀ j k, V c main_v15 (ix2 j k) = (Wb j k : EReal))
    (hc : ∀ j k, V c main_v17 (ix2 j k) = (Wc j k : EReal)) (h4 : ∀ k, V c main_v18 (ix2 0 k) = (b k : EReal)) :
    (dat3 V c).arrAt 8 cfg3.N
      = fun i => ((logSoft (joined (mm (decoded C) X) S2 S1 Wa Wb Wc b (i 0)) (i 1) : ℝ) : EReal) := by
  refine (dat3 V c).arrAt_eq_of_covers 8 _ (by decide +kernel) fun t hf y => ?_
  blk_simp
  rw [after3_8]
  frame_out
  obtain ⟨r, k, rfl⟩ : ∃ (r : Fin 1000) (k : Fin 64), y = ix2 r k := ⟨y 0, y 1, eq_ix2 y⟩
  obtain ⟨R, hR, e⟩ := place t r k
  rw [e]
  refine (last_at _ _ _ _ _ _ _ r k (fun k => ∑ j, (C R j : ℝ) * X j k) (S2 R) (S1 R) Wa Wb Wc b
    (fun k => sweep_at _ _ r k (C R) X (fun j => (congrArg BitVec.toNat (blk_code V c t hR j)).trans (h0 R j))
      (fun j k => (blk_x V c t j k).trans (h1 j k)))
    (fun k => (blk_s2 V c t hR k).trans (hs2 R k)) (fun k => (blk_s1 V c t hR k).trans (hs1 R k))
    (fun j k => (blk_wa V c t j k).trans (ha j k)) (fun j k => (blk_wb V c t j k).trans (hb j k))
    (fun j k => (blk_wc V c t j k).trans (hc j k)) (fun k => (blk_b V c t k).trans (h4 k))).trans ?_
  simp only [scaled_sum]
  rfl

end Cert.Gcn.Region3

end
-- ==== Proof.Stretches.lean ====
/- What the steps between the passes leave in the arrays the passes read: the arguments themselves, laid out anew. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Gcn

open Cert.KernelIdeal Cert.KernelIdeal.Gen Idealize.ShloMosaic Idealize.ShloMosaic.TcCoe Idealize.ShloMosaic.Pipeline

variable (W : Valuation τ sig (Elt Ideal))

/-- Before the first pass: the features and the two matrices of weights as they are, the two shifts laid out as rows. -/
theorem stretch0 :
    (∀ (j : Fin 10000) (k : Fin 128), StableHlo.after hostOps0 W (Proc.devRef .tc main_v0) (ix2 j k) = W (Proc.devRef .tc main_arg0) (ix2 j k))
    ∧ (∀ j k : Fin 128, StableHlo.after hostOps0 W (Proc.devRef .tc main_v1) (ix2 j k) = W (Proc.devRef .tc main_arg2) (ix2 j k))
    ∧ (∀ k : Fin 128, StableHlo.after hostOps0 W (Proc.devRef .tc main_v2) (ix2 0 k) = W (Proc.devRef .tc main_arg3) (ix1 k))
    ∧ (∀ j k : Fin 128, StableHlo.after hostOps0 W (Proc.devRef .tc main_v3) (ix2 j k) = W (Proc.devRef .tc main_arg4) (ix2 j k))
    ∧ (∀ k : Fin 128, StableHlo.after hostOps0 W (Proc.devRef .tc main_v4) (ix2 0 k) = W (Proc.devRef .tc main_arg5) (ix1 k)) := by
  refine ⟨?_, ?_, ?_, ?_, ?_⟩ <;> (intros; after_results; pointwise)

/-- Before the second pass: the second layer's weights, and its shift laid out as a row. -/
theorem stretch1 :
    (∀ j k : Fin 128, StableHlo.after hostOps1 W (Proc.devRef .tc main_v6) (ix2 j k) = W (Proc.devRef .tc main_arg6) (ix2 j k))
    ∧ (∀ k : Fin 128, StableHlo.after hostOps1 W (Proc.devRef .tc main_v7) (ix2 0 k) = W (Proc.devRef .tc main_arg7) (ix1 k)) := by
  refine ⟨?_, ?_⟩ <;> (intros; after_results; pointwise)

/-- Before the third pass: the third layer's weights, and its shift laid out as a row. -/
theorem stretch2 :
    (∀ j k : Fin 128, StableHlo.after hostOps2 W (Proc.devRef .tc main_v9) (ix2 j k) = W (Proc.devRef .tc main_arg8) (ix2 j k))
    ∧ (∀ k : Fin 128, StableHlo.after hostOps2 W (Proc.devRef .tc main_v10) (ix2 0 k) = W (Proc.devRef .tc main_arg9) (ix1 k)) := by
  refine ⟨?_, ?_⟩ <;> (intros; after_results; pointwise)

/-- Before the last pass: the last weights in thirds, and the last shift laid out as a row. -/
theorem stretch3 :
    (∀ (j : Fin 128) (k : Fin 64),
      StableHlo.after hostOps3 W (Proc.devRef .tc main_v13) (ix2 j k) = W (Proc.devRef .tc main_arg10) (ix2 ⟨j.val, by omega⟩ k))
    ∧ (∀ (j : Fin 128) (k : Fin 64),
      StableHlo.after hostOps3 W (Proc.devRef .tc main_v15) (ix2 j k) = W (Proc.devRef .tc main_arg10) (ix2 ⟨128 + j.val, by omega⟩ k))
    ∧ (∀ (j : Fin 128) (k : Fin 64),
      StableHlo.after hostOps3 W (Proc.devRef .tc main_v17) (ix2 j k) = W (Proc.devRef .tc main_arg10) (ix2 ⟨256 + j.val, by omega⟩ k))
    ∧ (∀ k : Fin 64, StableHlo.after hostOps3 W (Proc.devRef .tc main_v18) (ix2 0 k) = W (Proc.devRef .tc main_arg11) (ix1 k)) := by
  refine ⟨?_, ?_, ?_, ?_⟩ <;> (intros; after_results; pointwise)

end Cert.Gcn

end
-- ==== Proof.Value.lean ====
/- The kernel's result over the reals: the four passes in order, each fed by the ones before it. -/
module

public import proofs.«01_k».proof.Proof.Network
public import proofs.«01_k».proof.Proof.Region0
public import proofs.«01_k».proof.Proof.Region1
public import proofs.«01_k».proof.Proof.Region2
public import proofs.«01_k».proof.Proof.Region3
public import proofs.«01_k».proof.Proof.Stretches

@[expose] public section

set_option maxRecDepth 16384

noncomputable section

namespace Cert.Gcn

open Cert.KernelIdeal Cert.KernelIdeal.Gen Idealize.ShloMosaic Idealize.ShloMosaic.TcCoe Idealize.ShloMosaic.Pipeline

/-- The kernel's arguments on a device are the given reals. -/
structure Holds (m : (ℓ : Loc nD τ sig) → Buf (Elt Ideal) ℓ) (c : Dev nD) (p : Params) : Prop where
  x : ∀ i j, m ((c : Thread nD τ).loc main_arg0) (ix2 i j) = (p.x i j : EReal)
  adj : ∀ i j, m ((c : Thread nD τ).loc main_arg1) (ix2 i j) = (p.adj i j : EReal)
  weight : ∀ i j, m ((c : Thread nD τ).loc main_arg2) (ix2 i j) = (p.weight i j : EReal)
  bias : ∀ k, m ((c : Thread nD τ).loc main_arg3) (ix1 k) = (p.bias k : EReal)
  w1 : ∀ i j, m ((c : Thread nD τ).loc main_arg4) (ix2 i j) = (p.w1 i j : EReal)
  b1 : ∀ k, m ((c : Thread nD τ).loc main_arg5) (ix1 k) = (p.b1 k : EReal)
  w2 : ∀ i j, m ((c : Thread nD τ).loc main_arg6) (ix2 i j) = (p.w2 i j : EReal)
  b2 : ∀ k, m ((c : Thread nD τ).loc main_arg7) (ix1 k) = (p.b2 k : EReal)
  w3 : ∀ i j, m ((c : Thread nD τ).loc main_arg8) (ix2 i j) = (p.w3 i j : EReal)
  b3 : ∀ k, m ((c : Thread nD τ).loc main_arg9) (ix1 k) = (p.b3 k : EReal)
  w4 : ∀ i j, m ((c : Thread nD τ).loc main_arg10) (ix2 i j) = (p.w4 i j : EReal)
  b4 : ∀ k, m ((c : Thread nD τ).loc main_arg11) (ix1 k) = (p.b4 k : EReal)

variable (m : (ℓ : Loc nD τ sig) → Buf (Elt Ideal) ℓ) (ρ : Dev nD → PrngReg) (c : Dev nD) (p : Params) (h : Holds m c p)

include h

/-! ### The first pass -/

/-- After the first pass: the first layer's values. -/
theorem x1_w2 : W2 m ρ c (Proc.devRef .tc main_v5_1) = fun i => ((p.x1 (i 0) (i 1) : ℝ) : EReal) :=
  (W2_arr m ρ c 8).trans (Region0.x1_arr (V1 m ρ) c p.adj p.x p.weight p.bias p.w1 p.b1
    (fun i j => (congrFun (W1_args m ρ c main_arg1 (by decide)) (ix2 i j)).trans (h.adj i j))
    (fun j k => ((stretch0 _).1 j k).trans (h.x j k)) (fun j k => ((stretch0 _).2.1 j k).trans (h.weight j k))
    (fun k => ((stretch0 _).2.2.1 k).trans (h.bias k)) (fun j k => ((stretch0 _).2.2.2.1 j k).trans (h.w1 j k))
    (fun k => ((stretch0 _).2.2.2.2 k).trans (h.b1 k)))

/-- After the first pass: the graph's codes. -/
theorem code_w2 : W2 m ρ c (Proc.devRef .tc main_v5_0) = fun i => BitVec.ofNat 8 (codes p.adj (i 0) (i 1)) :=
  (W2_arr m ρ c 7).trans (Region0.code_arr (V1 m ρ) c p.adj
    (fun i j => (congrFun (W1_args m ρ c main_arg1 (by decide)) (ix2 i j)).trans (h.adj i j)) p.unit)

/-! ### The second pass -/

/-- The codes as the second pass reads them. -/
theorem code_v3 (i j : Fin 10000) : (V3 m ρ c main_v5_0 (ix2 i j) : BitVec 8).toNat = codes p.adj i j := by
  have e : V3 m ρ c main_v5_0 (ix2 i j) = BitVec.ofNat 8 (codes p.adj i j) :=
    congrFun ((W3_of m ρ c main_v5_0 (by decide)).trans (code_w2 m ρ c p h)) (ix2 i j)
  rw [e, BitVec.toNat_ofNat]
  have := code_bounds (p.unit i j).1 (p.unit i j).2
  unfold codes
  omega

/-- The first layer's values as the second pass reads them. -/
theorem x1_v3 (i : Fin 10000) (k : Fin 128) : V3 m ρ c main_v5_1 (ix2 i k) = ((p.x1 i k : ℝ) : EReal) :=
  congrFun ((W3_of m ρ c main_v5_1 (by decide)).trans (x1_w2 m ρ c p h)) (ix2 i k)

/-- After the second pass: the second layer's values. -/
theorem x2_w4 : W4 m ρ c (Proc.devRef .tc main_v8_0) = fun i => ((p.x2 (i 0) (i 1) : ℝ) : EReal) :=
  (W4_arr m ρ c 5).trans (Region1.x_arr (V3 m ρ) c (codes p.adj) p.x1 (code_v3 m ρ c p h) (x1_v3 m ρ c p h) p.w2 p.b2
    (fun j k => ((stretch1 _).1 j k).trans ((congrFun (W2_args m ρ c main_arg6 (by decide)) (ix2 j k)).trans (h.w2 j k)))
    (fun k => ((stretch1 _).2 k).trans ((congrFun (W2_args m ρ c main_arg7 (by decide)) (ix1 k)).trans (h.b2 k))))

/-- After the second pass: its contraction of the rounded graph with the first layer's values. -/
theorem s1_w4 : W4 m ρ c (Proc.devRef .tc main_v8_1) = fun i => ((mm p.q p.x1 (i 0) (i 1) : ℝ) : EReal) :=
  (W4_arr m ρ c 6).trans (Region1.s_arr (V3 m ρ) c (codes p.adj) p.x1 (code_v3 m ρ c p h) (x1_v3 m ρ c p h))

/-! ### The third pass -/

/-- The codes as the third pass reads them. -/
theorem code_v5 (i j : Fin 10000) : (V5 m ρ c main_v5_0 (ix2 i j) : BitVec 8).toNat = codes p.adj i j := by
  have e : V5 m ρ c main_v5_0 = V3 m ρ c main_v5_0 :=
    (W5_of m ρ c main_v5_0 (by decide)).trans (W4_of m ρ c main_v5_0 (by decide))
  exact (congrArg BitVec.toNat (congrFun e (ix2 i j))).trans (code_v3 m ρ c p h i j)

/-- The second layer's values as the third pass reads them. -/
theorem x2_v5 (i : Fin 10000) (k : Fin 128) : V5 m ρ c main_v8_0 (ix2 i k) = ((p.x2 i k : ℝ) : EReal) :=
  congrFun ((W5_of m ρ c main_v8_0 (by decide)).trans (x2_w4 m ρ c p h)) (ix2 i k)

/-- After the third pass: the third layer's values. -/
theorem x3_w6 : W6 m ρ c (Proc.devRef .tc main_v11_0) = fun i => ((p.x3 (i 0) (i 1) : ℝ) : EReal) :=
  (W6_arr m ρ c 5).trans (Region2.x_arr (V5 m ρ) c (codes p.adj) p.x2 (code_v5 m ρ c p h) (x2_v5 m ρ c p h) p.w3 p.b3
    (fun j k => ((stretch2 _).1 j k).trans ((congrFun (W4_args m ρ c main_arg8 (by decide)) (ix2 j k)).trans (h.w3 j k)))
    (fun k => ((stretch2 _).2 k).trans ((congrFun (W4_args m ρ c main_arg9 (by decide)) (ix1 k)).trans (h.b3 k))))

/-- After the third pass: its contraction of the rounded graph with the second layer's values. -/
theorem s2_w6 : W6 m ρ c (Proc.devRef .tc main_v11_1) = fun i => ((mm p.q p.x2 (i 0) (i 1) : ℝ) : EReal) :=
  (W6_arr m ρ c 6).trans (Region2.s_arr (V5 m ρ) c (codes p.adj) p.x2 (code_v5 m ρ c p h) (x2_v5 m ρ c p h))

/-! ### The last pass -/

/-- The codes as the last pass reads them. -/
theorem code_v7 (i j : Fin 10000) : (V7 m ρ c main_v5_0 (ix2 i j) : BitVec 8).toNat = codes p.adj i j := by
  have e : V7 m ρ c main_v5_0 = V5 m ρ c main_v5_0 :=
    (W7_of m ρ c main_v5_0 (by decide)).trans (W6_of m ρ c main_v5_0 (by decide))
  exact (congrArg BitVec.toNat (congrFun e (ix2 i j))).trans (code_v5 m ρ c p h i j)

/-- The third layer's values as the last pass reads them. -/
theorem x3_v7 (i : Fin 10000) (k : Fin 128) : V7 m ρ c main_v11_0 (ix2 i k) = ((p.x3 i k : ℝ) : EReal) :=
  congrFun ((W7_of m ρ c main_v11_0 (by decide)).trans (x3_w6 m ρ c p h)) (ix2 i k)

/-- The first stored contraction as the last pass reads it. -/
theorem s1_v7 (i : Fin 10000) (k : Fin 128) : V7 m ρ c main_v8_1 (ix2 i k) = ((mm p.q p.x1 i k : ℝ) : EReal) := by
  have e : V7 m ρ c main_v8_1 = W4 m ρ c (Proc.devRef .tc main_v8_1) :=
    (W7_of m ρ c main_v8_1 (by decide)).trans ((W6_of m ρ c main_v8_1 (by decide)).trans (W5_of m ρ c main_v8_1 (by decide)))
  exact congrFun (e.trans (s1_w4 m ρ c p h)) (ix2 i k)

/-- The second stored contraction as the last pass reads it. -/
theorem s2_v7 (i : Fin 10000) (k : Fin 128) : V7 m ρ c main_v11_1 (ix2 i k) = ((mm p.q p.x2 i k : ℝ) : EReal) :=
  congrFun ((W7_of m ρ c main_v11_1 (by decide)).trans (s2_w6 m ρ c p h)) (ix2 i k)

/-- The kernel's result is the network's. -/
theorem kernel_value : W8 m ρ c (Proc.devRef .tc main_v19) = fun i => ((p.out (i 0) (i 1) : ℝ) : EReal) :=
  (W8_arr m ρ c 8).trans (Region3.out_arr (V7 m ρ) c (codes p.adj) p.x3 (mm p.q p.x1) (mm p.q p.x2)
    (upper p.w4) (middle p.w4) (lower p.w4) p.b4 (code_v7 m ρ c p h) (x3_v7 m ρ c p h) (s1_v7 m ρ c p h) (s2_v7 m ρ c p h)
    (fun j k => ((stretch3 _).1 j k).trans ((congrFun (W6_args m ρ c main_arg10 (by decide)) (ix2 _ k)).trans (h.w4 _ k)))
    (fun j k => ((stretch3 _).2.1 j k).trans ((congrFun (W6_args m ρ c main_arg10 (by decide)) (ix2 _ k)).trans (h.w4 _ k)))
    (fun j k => ((stretch3 _).2.2.1 j k).trans ((congrFun (W6_args m ρ c main_arg10 (by decide)) (ix2 _ k)).trans (h.w4 _ k)))
    (fun k => ((stretch3 _).2.2.2 k).trans ((congrFun (W6_args m ρ c main_arg11 (by decide)) (ix1 k)).trans (h.b4 k))))

end Cert.Gcn

end
-- ==== Proof.Precondition.lean ====
/- What the precondition says of the arguments: every entry is a real, and the graph's lie between 0 and 1. -/
module

public import proofs.«01_k».proof.Defs
public import proofs.«01_k».proof.Proof.Value
public import Idealize.ShloMosaic.Lib.Pointwise
public import Idealize.ShloMosaic.Lib.IdealHost
public import Idealize.ShloMosaic.Lib.WordArith

@[expose] public section

noncomputable section

namespace Cert.Gcn

open Idealize.ShloMosaic Cert.Pre_real_graph Idealize.ShloMosaic.WordArith

/-- The precondition's own side conditions: a scalar broadcasts to each of the shapes. -/
theorem pre_facts : Cert.Pre_real_graph.Facts where
  bcast_S_S10000x128 := by decide
  bcast_S_S128x128 := by decide
  bcast_S_S128 := by decide
  bcast_S_S384x64 := by decide
  bcast_S_S64 := by decide
  bcast_S_S10000x10000 := by decide

/-- The largest literal is infinity. -/
theorem lit_top : Ideal.ofBits .f32 0x7F800000#32 = ⊤ := by
  simp [Ideal.ofBits, Ideal.ieee, -EReal.coe_mul]

/-- An array whose every entry is smaller in size than infinity holds reals. -/
theorem real_of_finite {s : Shape} (a : FVec Ideal s .f32) (hb : S_.BroadcastsInDim s (![] : Fin 0 → Fin s.rank))
    (h : cmpf .olt (Host.absf a) (broadcastInDim s ![] hb (constant S_ .f32 0x7F800000#32)) = fun _ => 1#1) (i : s.Idx) :
    ∃ r : ℝ, a i = (r : EReal) := by
  have h := congrFun h i
  pointwise at h
  rw [ofBool_eq_one_iff, decide_eq_true_iff, show FloatOps.absf (a i) = max (a i) (-(a i)) from rfl, lit_top, max_lt_iff] at h
  exact ⟨(a i).toReal, (EReal.coe_toReal h.1.ne (fun e => absurd h.2 (by rw [e]; exact lt_irrefl _))).symm⟩

/-- An array compared at least 0 and at most 1 everywhere lies between 0 and 1. -/
theorem unit_of_compare {s : Shape} (a : FVec Ideal s .f32) (hb : S_.BroadcastsInDim s (![] : Fin 0 → Fin s.rank))
    (h : andi (cmpf .oge a (broadcastInDim s ![] hb (constant S_ .f32 0x00000000#32)))
      (cmpf .ole a (broadcastInDim s ![] hb (constant S_ .f32 0x3F800000#32))) = fun _ => 1#1) (i : s.Idx) :
    ∃ r : ℝ, a i = (r : EReal) ∧ 0 ≤ r ∧ r ≤ 1 := by
  have h := congrFun h i
  pointwise at h
  rw [andi_ofBool, ofBool_eq_one_iff, Bool.and_eq_true, decide_eq_true_iff, decide_eq_true_iff] at h
  have e : a i = (((a i).toReal : ℝ) : EReal) := (EReal.coe_toReal
    (ne_of_lt (lt_of_le_of_lt h.2 (EReal.coe_lt_top 1))) (ne_of_gt (lt_of_lt_of_le (EReal.bot_lt_coe 0) h.1))).symm
  rw [e] at h
  exact ⟨_, e, EReal.coe_nonneg.mp h.1, by exact_mod_cast h.2⟩

/-- Where the precondition holds, the arguments are reals and the graph lies between 0 and 1. -/
theorem reals_of_pre [Cert.Pre_real_graph.Facts] (m : (ℓ : Loc Cert.KernelIdeal.nD Cert.KernelIdeal.τ Cert.KernelIdeal.sig) → Buf (Elt Ideal) ℓ)
    (h : Cert.Pre_KernelIdeal_real_graph m) (c : Dev Cert.KernelIdeal.nD) : ∃ p, Holds m c p := by
  obtain ⟨h0, h2, h3, h4, h5, h6, h7, h8, h9, h10, h11, h1⟩ := h c
  choose x hx using real_of_finite _ _ h0
  choose weight hweight using real_of_finite _ _ h2
  choose bias hbias using real_of_finite _ _ h3
  choose w1 hw1 using real_of_finite _ _ h4
  choose b1 hb1 using real_of_finite _ _ h5
  choose w2 hw2 using real_of_finite _ _ h6
  choose b2 hb2 using real_of_finite _ _ h7
  choose w3 hw3 using real_of_finite _ _ h8
  choose b3 hb3 using real_of_finite _ _ h9
  choose w4 hw4 using real_of_finite _ _ h10
  choose b4 hb4 using real_of_finite _ _ h11
  choose adj hadj using unit_of_compare _ _ h1
  exact ⟨⟨fun i j => x (ix2 i j), fun i j => adj (ix2 i j), fun i j => weight (ix2 i j), fun k => bias (ix1 k),
    fun i j => w1 (ix2 i j), fun k => b1 (ix1 k), fun i j => w2 (ix2 i j), fun k => b2 (ix1 k),
    fun i j => w3 (ix2 i j), fun k => b3 (ix1 k), fun i j => w4 (ix2 i j), fun k => b4 (ix1 k), fun i j => (hadj (ix2 i j)).2⟩,
    ⟨fun i j => hx _, fun i j => (hadj _).1, fun i j => hweight _, fun k => hbias _, fun i j => hw1 _, fun k => hb1 _,
      fun i j => hw2 _, fun k => hb2 _, fun i j => hw3 _, fun k => hb3 _, fun i j => hw4 _, fun k => hb4 _⟩⟩

end Cert.Gcn

end
-- ==== Proof.Reference.lean ====
/- The problem's mathematics, stage by stage: each stage of the reference as a function of whole arrays, its value over
   real matrices, and the reference's result as the stages in a row. -/
module

public import proofs.«01_k».proof.Proof.Gen.ReferenceIdeal.Run
public import proofs.«01_k».proof.Proof.RealMath
public import proofs.«01_k».proof.Proof.Quantise
public import proofs.«01_k».proof.Proof.LogSoftmax
public import Idealize.ShloMosaic.Lib.Pointwise
public import Mathlib.Algebra.BigOperators.Fin

@[expose] public section

set_option maxRecDepth 16384

noncomputable section

namespace Cert.Gcn.Ref

open Cert.ReferenceIdeal Cert.ReferenceIdeal.Gen Idealize.ShloMosaic Idealize.ShloMosaic.TcCoe

/-- The graph rounded to whole 255ths. -/
def rounded (a : FVec Ideal S10000x10000 .f32) : FVec Ideal S10000x10000 .f32 :=
  Host.divf (Host.floor (addf (mulf a (broadcastInDim S10000x10000 ![] bcast_S_S10000x10000 (constant S_ .f32 0x437F0000#32)))
    (broadcastInDim S10000x10000 ![] bcast_S_S10000x10000 (constant S_ .f32 0x3F000000#32))))
    (broadcastInDim S10000x10000 ![] bcast_S_S10000x10000 (constant S_ .f32 0x437F0000#32))

/-- A shift of 128 entries, laid along every row. -/
def along (b : FVec Ideal S128 .f32) : FVec Ideal S10000x128 .f32 :=
  broadcastInDim S10000x128 ![0, 1] bcast_S1x128_S10000x128_0_1 (broadcastInDim S1x128 ![1] bcast_S128_S1x128_1 b)

/-- Every row against the weights. -/
def times (h : FVec Ideal S10000x128 .f32) (W : FVec Ideal S128x128 .f32) : FVec Ideal S10000x128 .f32 :=
  Host.dotGeneral dot_S10000x128_S128x128_S10000x128_1_0_0_1_n_n none h W

/-- A layer: weights, graph, shift, clip at zero, skip connection. -/
def step (a : FVec Ideal S10000x10000 .f32) (h : FVec Ideal S10000x128 .f32) (W : FVec Ideal S128x128 .f32) (b : FVec Ideal S128 .f32)
    (z : FVec Ideal S10000x128 .f32) : FVec Ideal S10000x128 .f32 :=
  addf (maximumf (addf (Host.dotGeneral dot_S10000x10000_S10000x128_S10000x128_1_0_0_1_n_n none a (times h W)) (along b))
    (broadcastInDim S10000x128 ![] bcast_S_S10000x128 (constant S_ .f32 0x00000000#32))) z

/-- Three layers' values side by side. -/
def beside (x3 x2 x1 : FVec Ideal S10000x128 .f32) : FVec Ideal S10000x384 .f32 :=
  concatenate S10000x384 1 [⟨S10000x128, x3⟩, ⟨S10000x128, x2⟩, ⟨S10000x128, x1⟩]
    concatenates_S10000x128_S10000x128_S10000x128_S10000x384_d1

/-- The last layer, before the softmax. -/
def head (a : FVec Ideal S10000x10000 .f32) (x : FVec Ideal S10000x384 .f32) (W : FVec Ideal S384x64 .f32) (b : FVec Ideal S64 .f32) :
    FVec Ideal S10000x64 .f32 :=
  addf (Host.dotGeneral dot_S10000x10000_S10000x64_S10000x64_1_0_0_1_n_n none a
      (Host.dotGeneral dot_S10000x384_S384x64_S10000x64_1_0_0_1_n_n none x W))
    (broadcastInDim S10000x64 ![0, 1] bcast_S1x64_S10000x64_0_1 (broadcastInDim S1x64 ![1] bcast_S64_S1x64_1 b))

/-- Every row with its largest entry taken off. -/
def centred (x : FVec Ideal S10000x64 .f32) : FVec Ideal S10000x64 .f32 :=
  subf x (broadcastInDim S10000x64 ![0, 1] bcast_S10000x1_S10000x64_0_1 (broadcastInDim S10000x1 ![0] bcast_S10000_S10000x1_0
    (maximumf (broadcastInDim S10000 ![] bcast_S_S10000 (constant S_ .f32 0xFF800000#32))
      (Host.reduce FloatOps.maximumf x (constant S_ .f32 0xFF800000#32) reducesTo_S10000x64_S10000_d1 h_S_))))

/-- The logarithm of the softmax of every row. -/
def finish (x : FVec Ideal S10000x64 .f32) : FVec Ideal S10000x64 .f32 :=
  subf (centred x) (broadcastInDim S10000x64 ![0, 1] bcast_S10000x1_S10000x64_0_1 (Host.log
    (broadcastInDim S10000x1 ![0] bcast_S10000_S10000x1_0
      (Host.reduceAdd (Host.exp (centred x)) (constant S_ .f32 0x00000000#32) reducesTo_S10000x64_S10000_d1 h_S_))))

/-- Rounding a graph of reals gives its codes over 255. -/
theorem rounded_at (a : FVec Ideal S10000x10000 .f32) (i j : Fin 10000) (r : ℝ) (h : a (ix2 i j) = (r : EReal)) :
    rounded a (ix2 i j) = (((code r : ℝ) * 255⁻¹ : ℝ) : EReal) := by
  pointwise [rounded]
  rw [h, lit_255, lit_half, ← EReal.coe_mul, ← EReal.coe_add, Ideal.liftRound_coe, Ideal.div_coe (by norm_num), ← EReal.coe_mul]
  simp only [code, one_div]

/-- A dense map of real rows. -/
theorem dense_at (h : FVec Ideal S10000x128 .f32) (W : FVec Ideal S128x128 .f32) (b : FVec Ideal S128 .f32) (X : Mat 10000 128) (M : Mat 128 128)
    (s : Fin 128 → ℝ) (hx : ∀ i j, h (ix2 i j) = (X i j : EReal)) (hW : ∀ i j, W (ix2 i j) = (M i j : EReal)) (hb : ∀ k, b (ix1 k) = (s k : EReal))
    (i : Fin 10000) (k : Fin 128) : addf (times h W) (along b) (ix2 i k) = ((affine X M s i k : ℝ) : EReal) := by
  pointwise [times, along]
  simp only [hx, hW, hb, affine, mm, EReal.coe_add, coe_sum, EReal.coe_mul]

/-- A layer on a real graph. -/
theorem step_at (a : FVec Ideal S10000x10000 .f32) (h : FVec Ideal S10000x128 .f32) (W : FVec Ideal S128x128 .f32) (b : FVec Ideal S128 .f32)
    (z : FVec Ideal S10000x128 .f32) (A : Mat 10000 10000) (X : Mat 10000 128) (M : Mat 128 128) (s : Fin 128 → ℝ) (Z : Mat 10000 128)
    (ha : ∀ i j, a (ix2 i j) = (A i j : EReal)) (hx : ∀ i j, h (ix2 i j) = (X i j : EReal)) (hW : ∀ i j, W (ix2 i j) = (M i j : EReal))
    (hb : ∀ k, b (ix1 k) = (s k : EReal)) (hz : ∀ i j, z (ix2 i j) = (Z i j : EReal))
    (i : Fin 10000) (k : Fin 128) : step a h W b z (ix2 i k) = ((layer (mm A X) M s Z i k : ℝ) : EReal) := by
  rw [layer, mm_assoc]
  pointwise [step, times, along]
  simp only [ha, hx, hW, hb, hz, mm, EReal.coe_add, coe_sum, EReal.coe_mul, coe_max, EReal.coe_zero]

/-- The logarithm of the softmax of a real row. -/
theorem finish_at (x : FVec Ideal S10000x64 .f32) (Y : Mat 10000 64) (hx : ∀ i j, x (ix2 i j) = (Y i j : EReal)) (i : Fin 10000) (k : Fin 64) :
    finish x (ix2 i k) = ((logSoft (Y i) k : ℝ) : EReal) := by
  have e (u : EReal) : max (Ideal.ofBits .f32 0xFF800000#32) u = u := by rw [lit_bot]; exact max_eq_right bot_le
  refine Eq.trans ?_ (logSoft_early (Y i) k)
  pointwise [finish, centred]
  simp only [hx, e]

/-- The first third of the joined values. -/
theorem beside_upper (x3 x2 x1 : FVec Ideal S10000x128 .f32) (i : Fin 10000) (k : Fin 128) :
    beside x3 x2 x1 (ix2 i ⟨k.val, by omega⟩) = x3 (ix2 i k) := by
  pointwise [beside]

/-- The second third of the joined values. -/
theorem beside_middle (x3 x2 x1 : FVec Ideal S10000x128 .f32) (i : Fin 10000) (k : Fin 128) :
    beside x3 x2 x1 (ix2 i ⟨128 + k.val, by omega⟩) = x2 (ix2 i k) := by
  pointwise [beside]

/-- The last third of the joined values. -/
theorem beside_lower (x3 x2 x1 : FVec Ideal S10000x128 .f32) (i : Fin 10000) (k : Fin 128) :
    beside x3 x2 x1 (ix2 i ⟨256 + k.val, by omega⟩) = x1 (ix2 i k) := by
  pointwise [beside]
  rw [dif_neg (by omega), dif_neg (by omega)]
  exact congrArg (fun t => x1 (ix2 i t)) (Fin.ext (by simp only []; omega))

/-- The last layer on a real graph: the three contractions, joined. -/
theorem head_at (a : FVec Ideal S10000x10000 .f32) (x3 x2 x1 : FVec Ideal S10000x128 .f32) (W : FVec Ideal S384x64 .f32) (b : FVec Ideal S64 .f32)
    (A : Mat 10000 10000) (X3 X2 X1 : Mat 10000 128) (M : Mat 384 64) (s : Fin 64 → ℝ)
    (ha : ∀ i j, a (ix2 i j) = (A i j : EReal)) (h3 : ∀ i j, x3 (ix2 i j) = (X3 i j : EReal)) (h2 : ∀ i j, x2 (ix2 i j) = (X2 i j : EReal))
    (h1 : ∀ i j, x1 (ix2 i j) = (X1 i j : EReal)) (hW : ∀ i j, W (ix2 i j) = (M i j : EReal)) (hb : ∀ k, b (ix1 k) = (s k : EReal))
    (i : Fin 10000) (k : Fin 64) :
    head a (beside x3 x2 x1) W b (ix2 i k)
      = ((joined (mm A X3) (mm A X2) (mm A X1) (upper M) (middle M) (lower M) s i k : ℝ) : EReal) := by
  rw [joined_eq]
  generalize hx : beside x3 x2 x1 = x
  pointwise [head]
  subst hx
  simp only [sum_thirds (R := EReal), beside_upper, beside_middle, beside_lower, ha, h3, h2, h1, hW, hb, upper, middle, lower,
    EReal.coe_add, coe_sum, EReal.coe_mul]

/-- The reference's result is its stages in a row. -/
theorem stages (m : (ℓ : Loc nD τ sig) → Buf (Elt Ideal) ℓ) (c : Dev nD) :
    let a0 := m ((c.tc : Thread nD τ).loc main_arg0); let a1 := m ((c.tc : Thread nD τ).loc main_arg1)
    let a2 := m ((c.tc : Thread nD τ).loc main_arg2); let a3 := m ((c.tc : Thread nD τ).loc main_arg3)
    let x1 := step a1 a0 (m ((c.tc : Thread nD τ).loc main_arg4)) (m ((c.tc : Thread nD τ).loc main_arg5)) (addf (times a0 a2) (along a3))
    let x2 := step (rounded a1) x1 (m ((c.tc : Thread nD τ).loc main_arg6)) (m ((c.tc : Thread nD τ).loc main_arg7)) x1
    let x3 := step (rounded a1) x2 (m ((c.tc : Thread nD τ).loc main_arg8)) (m ((c.tc : Thread nD τ).loc main_arg9)) x2
    Value.res_main_v38 (F := Ideal) m c
      = finish (head (rounded a1) (beside x3 x2 x1) (m ((c.tc : Thread nD τ).loc main_arg10)) (m ((c.tc : Thread nD τ).loc main_arg11))) := by
  rfl

end Cert.Gcn.Ref

end
-- ==== Proof.RefValue.lean ====
/- The reference's result over the reals is the network's. -/
module

public import proofs.«01_k».proof.Proof.Network
public import proofs.«01_k».proof.Proof.Reference

@[expose] public section

set_option maxRecDepth 16384

noncomputable section

namespace Cert.Gcn.Ref

open Cert.ReferenceIdeal Cert.ReferenceIdeal.Gen Idealize.ShloMosaic Idealize.ShloMosaic.TcCoe

/-- The reference's arguments on a device are the given reals. -/
structure Holds (m : (ℓ : Loc nD τ sig) → Buf (Elt Ideal) ℓ) (c : Dev nD) (p : Params) : Prop where
  x : ∀ i j, m ((c.tc : Thread nD τ).loc main_arg0) (ix2 i j) = (p.x i j : EReal)
  adj : ∀ i j, m ((c.tc : Thread nD τ).loc main_arg1) (ix2 i j) = (p.adj i j : EReal)
  weight : ∀ i j, m ((c.tc : Thread nD τ).loc main_arg2) (ix2 i j) = (p.weight i j : EReal)
  bias : ∀ k, m ((c.tc : Thread nD τ).loc main_arg3) (ix1 k) = (p.bias k : EReal)
  w1 : ∀ i j, m ((c.tc : Thread nD τ).loc main_arg4) (ix2 i j) = (p.w1 i j : EReal)
  b1 : ∀ k, m ((c.tc : Thread nD τ).loc main_arg5) (ix1 k) = (p.b1 k : EReal)
  w2 : ∀ i j, m ((c.tc : Thread nD τ).loc main_arg6) (ix2 i j) = (p.w2 i j : EReal)
  b2 : ∀ k, m ((c.tc : Thread nD τ).loc main_arg7) (ix1 k) = (p.b2 k : EReal)
  w3 : ∀ i j, m ((c.tc : Thread nD τ).loc main_arg8) (ix2 i j) = (p.w3 i j : EReal)
  b3 : ∀ k, m ((c.tc : Thread nD τ).loc main_arg9) (ix1 k) = (p.b3 k : EReal)
  w4 : ∀ i j, m ((c.tc : Thread nD τ).loc main_arg10) (ix2 i j) = (p.w4 i j : EReal)
  b4 : ∀ k, m ((c.tc : Thread nD τ).loc main_arg11) (ix1 k) = (p.b4 k : EReal)

variable (m : (ℓ : Loc nD τ sig) → Buf (Elt Ideal) ℓ) (c : Dev nD) (p : Params) (h : Holds m c p)

/-- The reference's result is the network's. -/
theorem value (h : Holds m c p) : Value.res_main_v38 (F := Ideal) m c = fun i => ((p.out (i 0) (i 1) : ℝ) : EReal) := by
  have hq (i j : Fin 10000) : rounded (m ((c.tc : Thread nD τ).loc main_arg1)) (ix2 i j) = ((p.q i j : ℝ) : EReal) := by
    rw [rounded_at _ i j _ (h.adj i j), p.q_eq]
  have h1 := step_at _ _ _ _ _ p.adj p.x p.w1 p.b1 (affine p.x p.weight p.bias) h.adj h.x h.w1 h.b1
    (dense_at _ _ _ p.x p.weight p.bias h.x h.weight h.bias)
  have h2 := step_at _ _ _ _ _ p.q p.x1 p.w2 p.b2 p.x1 hq h1 h.w2 h.b2 h1
  have h3 := step_at _ _ _ _ _ p.q p.x2 p.w3 p.b3 p.x2 hq h2 h.w3 h.b3 h2
  have h4 := head_at _ _ _ _ _ _ p.q p.x3 p.x2 p.x1 p.w4 p.b4 hq h3 h2 h1 h.w4 h.b4
  refine (stages m c).trans (funext fun i => ?_)
  rw [eq_ix2 i]
  exact finish_at _ p.x4 h4 (i 0) (i 1)

end Cert.Gcn.Ref

end
-- ==== Proof.Algebraic.lean ====
/- The kernel and the reference compute the same array over the reals. -/
module

public import proofs.«01_k».proof.Proof.Launch
public import proofs.«01_k».proof.Proof.Precondition
public import proofs.«01_k».proof.Proof.RefValue

@[expose] public section

set_option maxRecDepth 16384

noncomputable section

namespace Cert.Gcn

open Cert.KernelIdeal Cert.KernelIdeal.Gen Idealize.ShloMosaic Idealize.ShloMosaic.TcCoe Idealize.SL.Sem

/-- Arguments equal to the kernel's are the same reals. -/
theorem same_reals (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) (p : Params)
    (h : Holds m c p)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5))
    (e6 : m' ((c.tc : Thread Cert.ReferenceIdeal.nD Cert.ReferenceIdeal.τ).loc Cert.ReferenceIdeal.main_arg6) = m ((c.tc : Thread nD τ).loc main_arg6))
    (e7 : m' ((c.tc : Thread Cert.ReferenceIdeal.nD Cert.ReferenceIdeal.τ).loc Cert.ReferenceIdeal.main_arg7) = m ((c.tc : Thread nD τ).loc main_arg7))
    (e8 : m' ((c.tc : Thread Cert.ReferenceIdeal.nD Cert.ReferenceIdeal.τ).loc Cert.ReferenceIdeal.main_arg8) = m ((c.tc : Thread nD τ).loc main_arg8))
    (e9 : m' ((c.tc : Thread Cert.ReferenceIdeal.nD Cert.ReferenceIdeal.τ).loc Cert.ReferenceIdeal.main_arg9) = m ((c.tc : Thread nD τ).loc main_arg9))
    (e10 : m' ((c.tc : Thread Cert.ReferenceIdeal.nD Cert.ReferenceIdeal.τ).loc Cert.ReferenceIdeal.main_arg10) = m ((c.tc : Thread nD τ).loc main_arg10))
    (e11 : m' ((c.tc : Thread Cert.ReferenceIdeal.nD Cert.ReferenceIdeal.τ).loc Cert.ReferenceIdeal.main_arg11) = m ((c.tc : Thread nD τ).loc main_arg11)) :
    Ref.Holds m' c p where
  x i j := (congrFun e0 (ix2 i j)).trans (h.x i j)
  adj i j := (congrFun e1 (ix2 i j)).trans (h.adj i j)
  weight i j := (congrFun e2 (ix2 i j)).trans (h.weight i j)
  bias k := (congrFun e3 (ix1 k)).trans (h.bias k)
  w1 i j := (congrFun e4 (ix2 i j)).trans (h.w1 i j)
  b1 k := (congrFun e5 (ix1 k)).trans (h.b1 k)
  w2 i j := (congrFun e6 (ix2 i j)).trans (h.w2 i j)
  b2 k := (congrFun e7 (ix1 k)).trans (h.b2 k)
  w3 i j := (congrFun e8 (ix2 i j)).trans (h.w3 i j)
  b3 k := (congrFun e9 (ix1 k)).trans (h.b3 k)
  w4 i j := (congrFun e10 (ix2 i j)).trans (h.w4 i j)
  b4 k := (congrFun e11 (ix1 k)).trans (h.b4 k)

/-- From real arguments with a graph between 0 and 1, the kernel and the reference both end, with their arguments
    unchanged, and with the same result: the network's. -/
theorem same_result [Cert.Pre_real_graph.Facts] : Cert.algebraic_KernelIdeal_ReferenceIdeal_pre_real_graph := by
  intro m g m' g' hpre hargs
  choose p hp using reals_of_pre m hpre
  refine ⟨fun c i => (((p c).out (i 0) (i 1) : ℝ) : EReal), ?_, ?_⟩
  · refine (θ_run _ _ _).mono (fun r h c => ?_) (kernel_run m g)
    have arg (b : Ref sig .tc) (hb : ¬ (Proc.devRef .tc b : DevRef τ sig).isScoped) := h c _ (mem_uc b hb)
    exact ⟨(arg main_v19 (by decide)).trans (kernel_value m g c (p c) (hp c)),
      (arg main_arg0 (by decide)).trans (W8_main_arg0 m g c), (arg main_arg1 (by decide)).trans (W8_main_arg1 m g c),
      (arg main_arg2 (by decide)).trans (W8_main_arg2 m g c), (arg main_arg3 (by decide)).trans (W8_main_arg3 m g c),
      (arg main_arg4 (by decide)).trans (W8_main_arg4 m g c), (arg main_arg5 (by decide)).trans (W8_main_arg5 m g c),
      (arg main_arg6 (by decide)).trans (W8_main_arg6 m g c), (arg main_arg7 (by decide)).trans (W8_main_arg7 m g c),
      (arg main_arg8 (by decide)).trans (W8_main_arg8 m g c), (arg main_arg9 (by decide)).trans (W8_main_arg9 m g c),
      (arg main_arg10 (by decide)).trans (W8_main_arg10 m g c), (arg main_arg11 (by decide)).trans (W8_main_arg11 m g c)⟩
  · refine (θ_run _ _ _).mono (fun r h c => ⟨(h c).1.trans ?_, (h c).2⟩) (Cert.ReferenceIdeal.Value.run (F := Ideal) m' g')
    obtain ⟨e0, e1, e2, e3, e4, e5, e6, e7, e8, e9, e10, e11⟩ := hargs c
    exact Ref.value m' c (p c) (same_reals m m' c (p c) (hp c) e0 e1 e2 e3 e4 e5 e6 e7 e8 e9 e10 e11)

end Cert.Gcn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference ends with its arguments unchanged; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The literal written for `1/255` in the kernel is the one real `255⁻¹`, rounded. -/
theorem named_reciprocal : Cert.preserves_Kernel_KernelIdeal :=
  IdealRules.named_const.statement Cert.KernelIdeal.κ "inv255" .f32 0x3B808081#32 ((255⁻¹ : ℝ) : EReal) rfl

/-- All the claims. -/
theorem claim : Cert.Claim :=
  ⟨Cert.Kernel.Gen.facts, Cert.KernelIdeal.Gen.facts, Cert.ReferenceIdeal.Gen.facts, Cert.Gcn.pre_facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, named_reciprocal,
    haveI := Cert.Gcn.pre_facts; Cert.Gcn.same_result⟩

end Cert.Proof

end
